-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x18944 : Shape := ⟨3, ![2, 896, 18944]⟩
abbrev S2x896x148 : Shape := ⟨3, ![2, 896, 148]⟩
abbrev S2x896x48 : Shape := ⟨3, ![2, 896, 48]⟩
abbrev S2x896 : Shape := ⟨2, ![2, 896]⟩
abbrev S3584x18944 : Shape := ⟨2, ![3584, 18944]⟩
abbrev S3584 : Shape := ⟨1, ![3584]⟩
abbrev S3584x48 : Shape := ⟨2, ![3584, 48]⟩
abbrev S48x18944 : Shape := ⟨2, ![48, 18944]⟩
abbrev S1792x18944 : Shape := ⟨2, ![1792, 18944]⟩
abbrev S1792x148 : Shape := ⟨2, ![1792, 148]⟩
abbrev S1792x48 : Shape := ⟨2, ![1792, 48]⟩
abbrev S1792x1 : Shape := ⟨2, ![1792, 1]⟩
abbrev S1792x512 : Shape := ⟨2, ![1792, 512]⟩
abbrev S48x512 : Shape := ⟨2, ![48, 512]⟩
abbrev S148x512 : Shape := ⟨2, ![148, 512]⟩
abbrev S1x3584 : Shape := ⟨2, ![1, 3584]⟩
abbrev S1792x3584 : Shape := ⟨2, ![1792, 3584]⟩
abbrev S1792x4736 : Shape := ⟨2, ![1792, 4736]⟩
abbrev S512x4736 : Shape := ⟨2, ![512, 4736]⟩
abbrev S1x512 : Shape := ⟨2, ![1, 512]⟩
abbrev S512x48 : Shape := ⟨2, ![512, 48]⟩
abbrev S2x896x3584 : Shape := ⟨3, ![2, 896, 3584]⟩

abbrev nBuf : Space → Nat
  | .hbm => 19
  | .vmem => 25
  | .smem => 0
  | _ => 0

abbrev bufTy : (tb : Table) → Fin (tcTables nBuf tb) → BufTy
  | .hbm, ⟨0, _⟩ => ⟨S2x896x18944, .fp8e5m2⟩
  | .hbm, ⟨1, _⟩ => ⟨S2x896x148, .f32⟩
  | .hbm, ⟨2, _⟩ => ⟨S2x896x48, .fp8e4m3⟩
  | .hbm, ⟨3, _⟩ => ⟨S2x896, .f32⟩
  | .hbm, ⟨4, _⟩ => ⟨S3584x18944, .fp8e4m3⟩
  | .hbm, ⟨5, _⟩ => ⟨S3584, .f32⟩
  | .hbm, ⟨6, _⟩ => ⟨S3584x48, .bf16⟩
  | .hbm, ⟨7, _⟩ => ⟨S48x18944, .bf16⟩
  | .hbm, ⟨8, _⟩ => ⟨S1792x18944, .fp8e5m2⟩
  | .hbm, ⟨9, _⟩ => ⟨S1792x148, .f32⟩
  | .hbm, ⟨10, _⟩ => ⟨S1792x48, .fp8e4m3⟩
  | .hbm, ⟨11, _⟩ => ⟨S1792x1, .f32⟩
  | .hbm, ⟨12, _⟩ => ⟨S1792x18944, .bf16⟩
  | .hbm, ⟨13, _⟩ => ⟨S48x18944, .f32⟩
  | .hbm, ⟨14, _⟩ => ⟨S1792x48, .bf16⟩
  | .hbm, ⟨15, _⟩ => ⟨S1x3584, .f32⟩
  | .hbm, ⟨16, _⟩ => ⟨S1792x3584, .bf16⟩
  | .hbm, ⟨17, _⟩ => ⟨S2x896x3584, .bf16⟩
  | .hbm, ⟨18, _⟩ => ⟨S2x896x48, .bf16⟩
  | .local _ .vmem, ⟨0, _⟩ => ⟨S1792x512, .fp8e5m2⟩
  | .local _ .vmem, ⟨1, _⟩ => ⟨S1792x512, .fp8e5m2⟩
  | .local _ .vmem, ⟨2, _⟩ => ⟨S1792x148, .f32⟩
  | .local _ .vmem, ⟨3, _⟩ => ⟨S1792x48, .fp8e4m3⟩
  | .local _ .vmem, ⟨4, _⟩ => ⟨S1792x1, .f32⟩
  | .local _ .vmem, ⟨5, _⟩ => ⟨S48x512, .bf16⟩
  | .local _ .vmem, ⟨6, _⟩ => ⟨S48x512, .bf16⟩
  | .local _ .vmem, ⟨7, _⟩ => ⟨S1792x512, .bf16⟩
  | .local _ .vmem, ⟨8, _⟩ => ⟨S1792x512, .bf16⟩
  | .local _ .vmem, ⟨9, _⟩ => ⟨S48x512, .f32⟩
  | .local _ .vmem, ⟨10, _⟩ => ⟨S48x512, .f32⟩
  | .local _ .vmem, ⟨11, _⟩ => ⟨S1792x48, .bf16⟩
  | .local _ .vmem, ⟨12, _⟩ => ⟨S1792x48, .f32⟩
  | .local _ .vmem, ⟨13, _⟩ => ⟨S1792x4736, .bf16⟩
  | .local _ .vmem, ⟨14, _⟩ => ⟨S1792x4736, .bf16⟩
  | .local _ .vmem, ⟨15, _⟩ => ⟨S512x4736, .fp8e4m3⟩
  | .local _ .vmem, ⟨16, _⟩ => ⟨S512x4736, .fp8e4m3⟩
  | .local _ .vmem, ⟨17, _⟩ => ⟨S1x512, .f32⟩
  | .local _ .vmem, ⟨18, _⟩ => ⟨S1x512, .f32⟩
  | .local _ .vmem, ⟨19, _⟩ => ⟨S1792x48, .bf16⟩
  | .local _ .vmem, ⟨20, _⟩ => ⟨S512x48, .bf16⟩
  | .local _ .vmem, ⟨21, _⟩ => ⟨S512x48, .bf16⟩
  | .local _ .vmem, ⟨22, _⟩ => ⟨S1792x512, .bf16⟩
  | .local _ .vmem, ⟨23, _⟩ => ⟨S1792x512, .bf16⟩
  | .local _ .vmem, ⟨24, _⟩ => ⟨S1792x512, .f32⟩
  | _, _ => ⟨S2x896x18944, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![37], ![false]⟩

def k0_cond3 (i : grid0.Coords) : BitVec 1 :=
  let arg0 : BitVec 32 := BitVec.ofNat 32 (i 0).val
  let c36_i32 : BitVec 32 := 36#32
  let v63 : BitVec 1 := Scalar.cmpi .eq arg0 c36_i32
  let v64 : BitVec 32 := Scalar.extui v63
  let c0_i32_24 : BitVec 32 := 0#32
  let v65 : BitVec 1 := Scalar.cmpi .ne v64 c0_i32_24
  v65

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1792x512 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x148 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x48 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S48x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1792x48 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![7, 4], ![false, false]⟩

def k1_cond3 (i : grid1.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1792x4736 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4736 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1792x48 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x48 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1792x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S2x896x18944 : Shape := ⟨3, ![2, 896, 18944]⟩
abbrev S2x896x148 : Shape := ⟨3, ![2, 896, 148]⟩
abbrev S2x896x48 : Shape := ⟨3, ![2, 896, 48]⟩
abbrev S2x896 : Shape := ⟨2, ![2, 896]⟩
abbrev S3584x18944 : Shape := ⟨2, ![3584, 18944]⟩
abbrev S3584 : Shape := ⟨1, ![3584]⟩
abbrev S3584x48 : Shape := ⟨2, ![3584, 48]⟩
abbrev S48x18944 : Shape := ⟨2, ![48, 18944]⟩
abbrev S2x896x148x128 : Shape := ⟨4, ![2, 896, 148, 128]⟩
abbrev S2x896x1 : Shape := ⟨3, ![2, 896, 1]⟩
abbrev S_ : Shape := ⟨0, ![]⟩
abbrev S2x896x3584 : Shape := ⟨3, ![2, 896, 3584]⟩
abbrev S1x1x3584 : Shape := ⟨3, ![1, 1, 3584]⟩

abbrev nBuf : Space → Nat
  | .hbm => 35
  | .vmem => 6
  | .smem => 0
  | _ => 0

abbrev bufTy : (tb : Table) → Fin (tcTables nBuf tb) → BufTy
  | .hbm, ⟨0, _⟩ => ⟨S2x896x18944, .fp8e5m2⟩
  | .hbm, ⟨1, _⟩ => ⟨S2x896x148, .f32⟩
  | .hbm, ⟨2, _⟩ => ⟨S2x896x48, .fp8e4m3⟩
  | .hbm, ⟨3, _⟩ => ⟨S2x896, .f32⟩
  | .hbm, ⟨4, _⟩ => ⟨S3584x18944, .fp8e4m3⟩
  | .hbm, ⟨5, _⟩ => ⟨S3584, .f32⟩
  | .hbm, ⟨6, _⟩ => ⟨S3584x48, .bf16⟩
  | .hbm, ⟨7, _⟩ => ⟨S48x18944, .bf16⟩
  | .hbm, ⟨8, _⟩ => ⟨S2x896x18944, .bf16⟩
  | .hbm, ⟨9, _⟩ => ⟨S2x896x48, .bf16⟩
  | .hbm, ⟨10, _⟩ => ⟨S3584x18944, .bf16⟩
  | .hbm, ⟨11, _⟩ => ⟨S2x896x148, .bf16⟩
  | .hbm, ⟨12, _⟩ => ⟨S2x896x148x128, .bf16⟩
  | .hbm, ⟨13, _⟩ => ⟨S2x896x18944, .bf16⟩
  | .hbm, ⟨14, _⟩ => ⟨S2x896x18944, .bf16⟩
  | .hbm, ⟨15, _⟩ => ⟨S2x896, .bf16⟩
  | .hbm, ⟨16, _⟩ => ⟨S2x896x1, .bf16⟩
  | .hbm, ⟨17, _⟩ => ⟨S2x896x48, .bf16⟩
  | .hbm, ⟨18, _⟩ => ⟨S2x896x48, .bf16⟩
  | .hbm, ⟨19, _⟩ => ⟨S48x18944, .f32⟩
  | .hbm, ⟨20, _⟩ => ⟨S_, .f32⟩
  | .hbm, ⟨21, _⟩ => ⟨S48x18944, .f32⟩
  | .hbm, ⟨22, _⟩ => ⟨S48x18944, .f32⟩
  | .hbm, ⟨23, _⟩ => ⟨S2x896x48, .f32⟩
  | .hbm, ⟨24, _⟩ => ⟨S_, .f32⟩
  | .hbm, ⟨25, _⟩ => ⟨S2x896x48, .f32⟩
  | .hbm, ⟨26, _⟩ => ⟨S2x896x48, .f32⟩
  | .hbm, ⟨27, _⟩ => ⟨S2x896x48, .bf16⟩
  | .hbm, ⟨28, _⟩ => ⟨S2x896x3584, .f32⟩
  | .hbm, ⟨29, _⟩ => ⟨S1x1x3584, .f32⟩
  | .hbm, ⟨30, _⟩ => ⟨S2x896x3584, .f32⟩
  | .hbm, ⟨31, _⟩ => ⟨S2x896x3584, .f32⟩
  | .hbm, ⟨32, _⟩ => ⟨S2x896x3584, .f32⟩
  | .hbm, ⟨33, _⟩ => ⟨S2x896x3584, .f32⟩
  | .hbm, ⟨34, _⟩ => ⟨S2x896x3584, .bf16⟩
  | .local _ .vmem, ⟨0, _⟩ => ⟨S2x896x18944, .fp8e5m2⟩
  | .local _ .vmem, ⟨1, _⟩ => ⟨S2x896x48, .fp8e4m3⟩
  | .local _ .vmem, ⟨2, _⟩ => ⟨S3584x18944, .fp8e4m3⟩
  | .local _ .vmem, ⟨3, _⟩ => ⟨S2x896x18944, .bf16⟩
  | .local _ .vmem, ⟨4, _⟩ => ⟨S2x896x48, .bf16⟩
  | .local _ .vmem, ⟨5, _⟩ => ⟨S3584x18944, .bf16⟩
  | _, _ => ⟨S2x896x18944, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x896x18944 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x48 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Math.lean ====
module

public import Idealize.ShloMosaic.PureOps.Ideal.Laws
public import Idealize.ShloMosaic.Lib.ValueIdx

@[expose] public section

/-! # The three gradients as formulas

The problem's mathematics over the extended reals, on arrays given as functions of their coordinates: the dequantised
output gradient, the gradient of the up factor, the gradient of the hidden projection and the gradient of the input.
A row of the flattened batch is `896 b + s`; `sum_rows` splits a sum over the flattened rows. -/

set_option maxRecDepth 16384

noncomputable section

namespace Cert.Math

open Idealize.ShloMosaic
open scoped BigOperators

/-- The scale of the low-rank branch. -/
abbrev two : EReal := Ideal.ofBits .f32 0x40000000#32

/-- The 128-wide block of a column. -/
abbrev blockOf (o : Fin 18944) : Fin 148 := ⟨o.val / 128, by have := o.isLt; omega⟩
/-- The flattened row of batch `b`, position `s`. -/
abbrev row (b : Fin 2) (s : Fin 896) : Fin 1792 := ⟨896 * b.val + s.val, by have := b.isLt; have := s.isLt; omega⟩

variable (A0 : Fin 2 → Fin 896 → Fin 18944 → EReal) (A1 : Fin 2 → Fin 896 → Fin 148 → EReal)
  (A2 : Fin 2 → Fin 896 → Fin 48 → EReal) (A3 : Fin 2 → Fin 896 → EReal) (A4 : Fin 3584 → Fin 18944 → EReal)
  (A5 : Fin 3584 → EReal) (A6 : Fin 3584 → Fin 48 → EReal) (A7 : Fin 48 → Fin 18944 → EReal)

/-- The dequantised output gradient: each code times the scale of its block. -/
def dyb (b : Fin 2) (s : Fin 896) (o : Fin 18944) : EReal := A0 b s o * A1 b s (blockOf o)
/-- The gradient of the up factor: twice the sum over all rows of the dequantised hidden value times the output gradient. -/
def db (r : Fin 48) (o : Fin 18944) : EReal := two * ∑ b : Fin 2, ∑ s : Fin 896, (A2 b s r * A3 b s) * dyb A0 A1 b s o
/-- The gradient of the hidden projection: twice the output gradient times the up factor. -/
def dh (b : Fin 2) (s : Fin 896) (r : Fin 48) : EReal := two * ∑ o : Fin 18944, dyb A0 A1 b s o * A7 r o
/-- The gradient of the input: the output gradient times the weight codes, scaled per column, plus the low-rank part. -/
def dx (b : Fin 2) (s : Fin 896) (h : Fin 3584) : EReal :=
  (∑ o : Fin 18944, dyb A0 A1 b s o * A4 h o) * A5 h + ∑ r : Fin 48, dh A0 A1 A7 b s r * A6 h r

/-- A sum over the flattened rows is the sum over batches and positions. -/
theorem sum_rows (f : Fin 1792 → EReal) : ∑ m, f m = ∑ b : Fin 2, ∑ s : Fin 896, f (row b s) := by
  rw [← Fintype.sum_prod_type' (fun b s => f (row b s))]
  exact (Fintype.sum_equiv (finProdFinEquiv (m := 2) (n := 896)) (fun x : Fin 2 × Fin 896 => f (row x.1 x.2)) f
    (fun x => congrArg f (Fin.ext (by show 896 * x.1.val + x.2.val = x.2.val + 896 * x.1.val; omega)))).symm

/-- Every flattened row is the row of its batch and position. -/
theorem row_surj (a : Fin 1792) : row ⟨a.val / 896, by have := a.isLt; omega⟩ ⟨a.val % 896, Nat.mod_lt _ (by omega)⟩ = a :=
  Fin.ext (by show 896 * (a.val / 896) + a.val % 896 = a.val; omega)

end Cert.Math
end
-- ==== Proof.ReferenceIdeal.Reads.lean ====
module

public import proofs.«01_k».proof.Proof.Gen.ReferenceIdeal.Run
public import proofs.«01_k».proof.Proof.Gen.ReferenceIdeal.Read
public import proofs.«01_k».proof.Proof.Math
public import Idealize.ShloMosaic.Lib.TwoAxisContraction
public import Idealize.ShloMosaic.Lib.Pipeline.Value

@[expose] public section

/-! # The reference's results, over the extended reals

What the reference's cast kernel leaves (its operands, a widening being the identity here), and each of the three
results read at an index as the formula of `Cert.Math`. -/

set_option maxRecDepth 16384

noncomputable section

namespace Cert.ReferenceIdeal.Hand

open Cert.ReferenceIdeal Cert.ReferenceIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

theorem idx_3 : ∀ t : Fin cfg0.N, win0_0.index t (0 : Fin 3) = 0 ∧ win0_0.index t (1 : Fin 3) = 0 ∧ win0_0.index t (2 : Fin 3) = 0 ∧ win0_3.index t (0 : Fin 3) = 0 ∧ win0_3.index t (1 : Fin 3) = 0 ∧ win0_3.index t (2 : Fin 3) = 0 :=
  (by decide +kernel : ∀ t : Fin grid0.N, win0_0.index t (0 : Fin 3) = 0 ∧ win0_0.index t (1 : Fin 3) = 0 ∧ win0_0.index t (2 : Fin 3) = 0 ∧ win0_3.index t (0 : Fin 3) = 0 ∧ win0_3.index t (1 : Fin 3) = 0 ∧ win0_3.index t (2 : Fin 3) = 0)
theorem cover_3 (i : S2x896x18944.Idx) : ∃ t : Fin cfg0.N, (cfg0.win 3).flush t = true ∧ i ∈ ((cfg0.win 3).blk t).view.set := by
  have hi0 : (i 0).val < 2 := (i 0).isLt
  have hi1 : (i 1).val < 896 := (i 1).isLt
  have hi2 : (i 2).val < 18944 := (i 2).isLt
  refine ⟨t0_0, by decide +kernel, ?_⟩
  obtain ⟨e0, e1, e2, f0, f1, f2⟩ := idx_3 t0_0
  show i ∈ ((View.whole main_v0_0).slice (win0_3.rect t0_0)).set
  rw [View.set_slice_whole, Rect.mem_set_unit]
  show ∀ a : Fin 3, win0_3.index t0_0 a * S2x896x18944.size a ≤ (i a).val ∧ (i a).val < win0_3.index t0_0 a * S2x896x18944.size a + S2x896x18944.size a
  intro a
  match a with
  | ⟨0, _⟩ => show win0_3.index _ (0 : Fin 3) * 2 ≤ (i 0).val ∧ (i 0).val < win0_3.index _ (0 : Fin 3) * 2 + 2; rw [f0]; omega
  | ⟨1, _⟩ => show win0_3.index _ (1 : Fin 3) * 896 ≤ (i 1).val ∧ (i 1).val < win0_3.index _ (1 : Fin 3) * 896 + 896; rw [f1]; omega
  | ⟨2, _⟩ => show win0_3.index _ (2 : Fin 3) * 18944 ≤ (i 2).val ∧ (i 2).val < win0_3.index _ (2 : Fin 3) * 18944 + 18944; rw [f2]; omega
/-- The cast kernel's array `main_v0_0`: argument `main_arg0`, element for element. -/
theorem reg_0 (c : Dev nD) :
    Value.reg_main_v0_0 (F := Ideal) m c = fun i => (m ((c.tc : Thread nD τ).loc main_arg0) i : EReal) := by
  unfold Value.reg_main_v0_0
  refine (dats m 0 c).arrAt_eq_of_cover 3 _ (fun t hf => ?_) (fun i => cover_3 i)
  show (cfg0.win 3).cut (grid0.coords t) ((dats m 0 c).after 3 t) = _
  rw [after0_3]
  obtain ⟨e0, e1, e2, f0, f1, f2⟩ := idx_3 t
  funext y
  unfold out0_3
  rw [View.canon_unit_zero (by decide), View.ld_unit_zero (by decide)]
  have hi : ((cfg0.win 0).blk t).view.emb ((cfg0.win 3).xinj (grid0.coords t) y) = y := by
    funext a; apply Fin.ext
    match a with
    | ⟨0, _⟩ => show win0_0.index t (0 : Fin 3) * 2 + 1 * (y 0).val = (y 0).val; rw [e0]; omega
    | ⟨1, _⟩ => show win0_0.index t (1 : Fin 3) * 896 + 1 * (y 1).val = (y 1).val; rw [e1]; omega
    | ⟨2, _⟩ => show win0_0.index t (2 : Fin 3) * 18944 + 1 * (y 2).val = (y 2).val; rw [e2]; omega
  have ho : ((cfg0.win 3).blk t).view.emb y = y := by
    funext a; apply Fin.ext
    match a with
    | ⟨0, _⟩ => show win0_3.index t (0 : Fin 3) * 2 + 1 * (y 0).val = (y 0).val; rw [f0]; omega
    | ⟨1, _⟩ => show win0_3.index t (1 : Fin 3) * 896 + 1 * (y 1).val = (y 1).val; rw [f1]; omega
    | ⟨2, _⟩ => show win0_3.index t (2 : Fin 3) * 18944 + 1 * (y 2).val = (y 2).val; rw [f2]; omega
  show V m c main_arg0 (((cfg0.win 0).blk t).view.emb ((cfg0.win 3).xinj (grid0.coords t) y)) = m ((c.tc : Thread nD τ).loc main_arg0) (((cfg0.win 3).blk t).view.emb y)
  rw [hi, ho]
  rfl

theorem idx_4 : ∀ t : Fin cfg0.N, win0_1.index t (0 : Fin 3) = 0 ∧ win0_1.index t (1 : Fin 3) = 0 ∧ win0_1.index t (2 : Fin 3) = 0 ∧ win0_4.index t (0 : Fin 3) = 0 ∧ win0_4.index t (1 : Fin 3) = 0 ∧ win0_4.index t (2 : Fin 3) = 0 :=
  (by decide +kernel : ∀ t : Fin grid0.N, win0_1.index t (0 : Fin 3) = 0 ∧ win0_1.index t (1 : Fin 3) = 0 ∧ win0_1.index t (2 : Fin 3) = 0 ∧ win0_4.index t (0 : Fin 3) = 0 ∧ win0_4.index t (1 : Fin 3) = 0 ∧ win0_4.index t (2 : Fin 3) = 0)
theorem cover_4 (i : S2x896x48.Idx) : ∃ t : Fin cfg0.N, (cfg0.win 4).flush t = true ∧ i ∈ ((cfg0.win 4).blk t).view.set := by
  have hi0 : (i 0).val < 2 := (i 0).isLt
  have hi1 : (i 1).val < 896 := (i 1).isLt
  have hi2 : (i 2).val < 48 := (i 2).isLt
  refine ⟨t0_0, by decide +kernel, ?_⟩
  obtain ⟨e0, e1, e2, f0, f1, f2⟩ := idx_4 t0_0
  show i ∈ ((View.whole main_v0_1).slice (win0_4.rect t0_0)).set
  rw [View.set_slice_whole, Rect.mem_set_unit]
  show ∀ a : Fin 3, win0_4.index t0_0 a * S2x896x48.size a ≤ (i a).val ∧ (i a).val < win0_4.index t0_0 a * S2x896x48.size a + S2x896x48.size a
  intro a
  match a with
  | ⟨0, _⟩ => show win0_4.index _ (0 : Fin 3) * 2 ≤ (i 0).val ∧ (i 0).val < win0_4.index _ (0 : Fin 3) * 2 + 2; rw [f0]; omega
  | ⟨1, _⟩ => show win0_4.index _ (1 : Fin 3) * 896 ≤ (i 1).val ∧ (i 1).val < win0_4.index _ (1 : Fin 3) * 896 + 896; rw [f1]; omega
  | ⟨2, _⟩ => show win0_4.index _ (2 : Fin 3) * 48 ≤ (i 2).val ∧ (i 2).val < win0_4.index _ (2 : Fin 3) * 48 + 48; rw [f2]; omega
/-- The cast kernel's array `main_v0_1`: argument `main_arg2`, element for element. -/
theorem reg_1 (c : Dev nD) :
    Value.reg_main_v0_1 (F := Ideal) m c = fun i => (m ((c.tc : Thread nD τ).loc main_arg2) i : EReal) := by
  unfold Value.reg_main_v0_1
  refine (dats m 0 c).arrAt_eq_of_cover 4 _ (fun t hf => ?_) (fun i => cover_4 i)
  show (cfg0.win 4).cut (grid0.coords t) ((dats m 0 c).after 4 t) = _
  rw [after0_4]
  obtain ⟨e0, e1, e2, f0, f1, f2⟩ := idx_4 t
  funext y
  unfold out0_4
  rw [View.canon_unit_zero (by decide), View.ld_unit_zero (by decide)]
  have hi : ((cfg0.win 1).blk t).view.emb ((cfg0.win 4).xinj (grid0.coords t) y) = y := by
    funext a; apply Fin.ext
    match a with
    | ⟨0, _⟩ => show win0_1.index t (0 : Fin 3) * 2 + 1 * (y 0).val = (y 0).val; rw [e0]; omega
    | ⟨1, _⟩ => show win0_1.index t (1 : Fin 3) * 896 + 1 * (y 1).val = (y 1).val; rw [e1]; omega
    | ⟨2, _⟩ => show win0_1.index t (2 : Fin 3) * 48 + 1 * (y 2).val = (y 2).val; rw [e2]; omega
  have ho : ((cfg0.win 4).blk t).view.emb y = y := by
    funext a; apply Fin.ext
    match a with
    | ⟨0, _⟩ => show win0_4.index t (0 : Fin 3) * 2 + 1 * (y 0).val = (y 0).val; rw [f0]; omega
    | ⟨1, _⟩ => show win0_4.index t (1 : Fin 3) * 896 + 1 * (y 1).val = (y 1).val; rw [f1]; omega
    | ⟨2, _⟩ => show win0_4.index t (2 : Fin 3) * 48 + 1 * (y 2).val = (y 2).val; rw [f2]; omega
  show V m c main_arg2 (((cfg0.win 1).blk t).view.emb ((cfg0.win 4).xinj (grid0.coords t) y)) = m ((c.tc : Thread nD τ).loc main_arg2) (((cfg0.win 4).blk t).view.emb y)
  rw [hi, ho]
  rfl

theorem idx_5 : ∀ t : Fin cfg0.N, win0_2.index t (0 : Fin 2) = 0 ∧ win0_2.index t (1 : Fin 2) = 0 ∧ win0_5.index t (0 : Fin 2) = 0 ∧ win0_5.index t (1 : Fin 2) = 0 :=
  (by decide +kernel : ∀ t : Fin grid0.N, win0_2.index t (0 : Fin 2) = 0 ∧ win0_2.index t (1 : Fin 2) = 0 ∧ win0_5.index t (0 : Fin 2) = 0 ∧ win0_5.index t (1 : Fin 2) = 0)
theorem cover_5 (i : S3584x18944.Idx) : ∃ t : Fin cfg0.N, (cfg0.win 5).flush t = true ∧ i ∈ ((cfg0.win 5).blk t).view.set := by
  have hi0 : (i 0).val < 3584 := (i 0).isLt
  have hi1 : (i 1).val < 18944 := (i 1).isLt
  refine ⟨t0_0, by decide +kernel, ?_⟩
  obtain ⟨e0, e1, f0, f1⟩ := idx_5 t0_0
  show i ∈ ((View.whole main_v0_2).slice (win0_5.rect t0_0)).set
  rw [View.set_slice_whole, Rect.mem_set_unit]
  show ∀ a : Fin 2, win0_5.index t0_0 a * S3584x18944.size a ≤ (i a).val ∧ (i a).val < win0_5.index t0_0 a * S3584x18944.size a + S3584x18944.size a
  intro a
  match a with
  | ⟨0, _⟩ => show win0_5.index _ (0 : Fin 2) * 3584 ≤ (i 0).val ∧ (i 0).val < win0_5.index _ (0 : Fin 2) * 3584 + 3584; rw [f0]; omega
  | ⟨1, _⟩ => show win0_5.index _ (1 : Fin 2) * 18944 ≤ (i 1).val ∧ (i 1).val < win0_5.index _ (1 : Fin 2) * 18944 + 18944; rw [f1]; omega
/-- The cast kernel's array `main_v0_2`: argument `main_arg4`, element for element. -/
theorem reg_2 (c : Dev nD) :
    Value.reg_main_v0_2 (F := Ideal) m c = fun i => (m ((c.tc : Thread nD τ).loc main_arg4) i : EReal) := by
  unfold Value.reg_main_v0_2
  refine (dats m 0 c).arrAt_eq_of_cover 5 _ (fun t hf => ?_) (fun i => cover_5 i)
  show (cfg0.win 5).cut (grid0.coords t) ((dats m 0 c).after 5 t) = _
  rw [after0_5]
  obtain ⟨e0, e1, f0, f1⟩ := idx_5 t
  funext y
  unfold out0_5
  rw [View.canon_unit_zero (by decide), View.ld_unit_zero (by decide)]
  have hi : ((cfg0.win 2).blk t).view.emb ((cfg0.win 5).xinj (grid0.coords t) y) = y := by
    funext a; apply Fin.ext
    match a with
    | ⟨0, _⟩ => show win0_2.index t (0 : Fin 2) * 3584 + 1 * (y 0).val = (y 0).val; rw [e0]; omega
    | ⟨1, _⟩ => show win0_2.index t (1 : Fin 2) * 18944 + 1 * (y 1).val = (y 1).val; rw [e1]; omega
  have ho : ((cfg0.win 5).blk t).view.emb y = y := by
    funext a; apply Fin.ext
    match a with
    | ⟨0, _⟩ => show win0_5.index t (0 : Fin 2) * 3584 + 1 * (y 0).val = (y 0).val; rw [f0]; omega
    | ⟨1, _⟩ => show win0_5.index t (1 : Fin 2) * 18944 + 1 * (y 1).val = (y 1).val; rw [f1]; omega
  show V m c main_arg4 (((cfg0.win 2).blk t).view.emb ((cfg0.win 5).xinj (grid0.coords t) y)) = m ((c.tc : Thread nD τ).loc main_arg4) (((cfg0.win 5).blk t).view.emb y)
  rw [hi, ho]
  rfl

end Cert.ReferenceIdeal.Hand
end
-- ==== Proof.ReferenceIdeal.Values.lean ====
module

public import proofs.«01_k».proof.Proof.ReferenceIdeal.Reads

@[expose] public section

/-! # The reference's three results as the formulas of `Cert.Math`

Each of the reference's operations read at an index, down to its operands; the one contraction over two axes is read here. -/

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx
open scoped BigOperators

/-- The arrays as functions of their coordinates. -/
abbrev f0 (r0 : (⟨S2x896x18944, .bf16⟩ : BufTy).Contents (Elt Ideal)) : Fin 2 → Fin 896 → Fin 18944 → EReal := fun b s o => r0 (ix3 b s o)
abbrev f1 (x1 : (⟨S2x896x148, .f32⟩ : BufTy).Contents (Elt Ideal)) : Fin 2 → Fin 896 → Fin 148 → EReal := fun b s k => x1 (ix3 b s k)
abbrev f2 (r1 : (⟨S2x896x48, .bf16⟩ : BufTy).Contents (Elt Ideal)) : Fin 2 → Fin 896 → Fin 48 → EReal := fun b s r => r1 (ix3 b s r)
abbrev f3 (x3 : (⟨S2x896, .f32⟩ : BufTy).Contents (Elt Ideal)) : Fin 2 → Fin 896 → EReal := fun b s => x3 (ix2 b s)
abbrev f4 (r2 : (⟨S3584x18944, .bf16⟩ : BufTy).Contents (Elt Ideal)) : Fin 3584 → Fin 18944 → EReal := fun h o => r2 (ix2 h o)
abbrev f5 (x5 : (⟨S3584, .f32⟩ : BufTy).Contents (Elt Ideal)) : Fin 3584 → EReal := fun h => x5 (ix1 h)
abbrev f6 (x6 : (⟨S3584x48, .bf16⟩ : BufTy).Contents (Elt Ideal)) : Fin 3584 → Fin 48 → EReal := fun h r => x6 (ix2 h r)
abbrev f7 (x7 : (⟨S48x18944, .bf16⟩ : BufTy).Contents (Elt Ideal)) : Fin 48 → Fin 18944 → EReal := fun r o => x7 (ix2 r o)

variable (x1 : (⟨S2x896x148, .f32⟩ : BufTy).Contents (Elt Ideal)) (x3 : (⟨S2x896, .f32⟩ : BufTy).Contents (Elt Ideal))
  (x5 : (⟨S3584, .f32⟩ : BufTy).Contents (Elt Ideal)) (x6 : (⟨S3584x48, .bf16⟩ : BufTy).Contents (Elt Ideal))
  (x7 : (⟨S48x18944, .bf16⟩ : BufTy).Contents (Elt Ideal)) (r0 : (⟨S2x896x18944, .bf16⟩ : BufTy).Contents (Elt Ideal))
  (r1 : (⟨S2x896x48, .bf16⟩ : BufTy).Contents (Elt Ideal)) (r2 : (⟨S3584x18944, .bf16⟩ : BufTy).Contents (Elt Ideal))

/-- The dequantised output gradient. -/
theorem v4_read (i : S2x896x18944.Idx) :
    @Eq EReal (val_main_v4 (F := Ideal) x1 r0 i) (Math.dyb (f0 r0) (f1 x1) (i 0) (i 1) (i 2)) := by
  rw [val_main_v4_apply, val_main_v3_apply, val_main_v2_apply, val_main_v1_apply]
  have h0 : (i 0).val < 2 := (i 0).isLt
  have h1 : (i 1).val < 896 := (i 1).isLt
  have h2 : (i 2).val < 18944 := (i 2).isLt
  have e0 : i = ix3 (i 0) (i 1) (i 2) := eq_ix3 i
  have e1 : idx_main_v2 (idx_main_v3 i) = ix3 (i 0) (i 1) (Math.blockOf (i 2)) := by
    funext a; apply Fin.ext
    match a with
    | ⟨0, _⟩ => show (((i 0).val * 896 + (i 1).val) * 18944 + (i 2).val) / 16973824 = (i 0).val; omega
    | ⟨1, _⟩ => show (((i 0).val * 896 + (i 1).val) * 18944 + (i 2).val) / 18944 % 896 = (i 1).val; omega
    | ⟨2, _⟩ => show (((i 0).val * 896 + (i 1).val) * 18944 + (i 2).val) / 128 % 148 = (i 2).val / 128; omega
  exact congrArg₂ (fun u v : EReal => u * v) (congrArg r0 e0) (congrArg x1 e1)

/-- The dequantised hidden values. -/
theorem v8_read (i : S2x896x48.Idx) :
    @Eq EReal (val_main_v8 (F := Ideal) x3 r1 i) (f2 r1 (i 0) (i 1) (i 2) * f3 x3 (i 0) (i 1)) := by
  rw [val_main_v8_apply, val_main_v7_apply, val_main_v6_apply, val_main_v5_apply]
  have e0 : i = ix3 (i 0) (i 1) (i 2) := eq_ix3 i
  have e1 : idx_main_v6 (idx_main_v7 i) = ix2 (i 0) (i 1) := by
    funext a; apply Fin.ext
    match a with
    | ⟨0, _⟩ => rfl
    | ⟨1, _⟩ => rfl
  exact congrArg₂ (fun u v : EReal => u * v) (congrArg r1 e0) (congrArg x3 e1)

/-- The dimension numbers of the contraction over batches and positions. -/
abbrev D9 : DotDims S2x896x48 S2x896x18944 S48x18944 := dot_S2x896x48_S2x896x18944_S48x18944_01_01_2_2_n_n

theorem lhs9_0 (i : S48x18944.Idx) (q : D9.contr.Idx) : (D9.lhsIdx i q 0).val = (q ⟨0, by decide⟩).val := by
  unfold DotDims.lhsIdx
  rw [dif_neg (show ¬(0 : Fin S2x896x48.rank) ∈ D9.lhsBatch by decide), dif_neg (show ¬(0 : Fin S2x896x48.rank) ∈ D9.lhsNonContracting by decide)]
  rfl
theorem lhs9_1 (i : S48x18944.Idx) (q : D9.contr.Idx) : (D9.lhsIdx i q 1).val = (q ⟨1, by decide⟩).val := by
  unfold DotDims.lhsIdx
  rw [dif_neg (show ¬(1 : Fin S2x896x48.rank) ∈ D9.lhsBatch by decide), dif_neg (show ¬(1 : Fin S2x896x48.rank) ∈ D9.lhsNonContracting by decide)]
  rfl
theorem lhs9_2 (i : S48x18944.Idx) (q : D9.contr.Idx) : (D9.lhsIdx i q 2).val = (i 0).val := by
  unfold DotDims.lhsIdx
  rw [dif_neg (show ¬(2 : Fin S2x896x48.rank) ∈ D9.lhsBatch by decide), dif_pos (show (2 : Fin S2x896x48.rank) ∈ D9.lhsNonContracting by decide)]
  rfl
theorem rhs9_0 (i : S48x18944.Idx) (q : D9.contr.Idx) : (D9.rhsIdx i q 0).val = (q ⟨0, by decide⟩).val := by
  unfold DotDims.rhsIdx
  rw [dif_neg (show ¬(0 : Fin S2x896x18944.rank) ∈ D9.rhsBatch by decide), dif_neg (show ¬(0 : Fin S2x896x18944.rank) ∈ D9.rhsNonContracting by decide)]
  rfl
theorem rhs9_1 (i : S48x18944.Idx) (q : D9.contr.Idx) : (D9.rhsIdx i q 1).val = (q ⟨1, by decide⟩).val := by
  unfold DotDims.rhsIdx
  rw [dif_neg (show ¬(1 : Fin S2x896x18944.rank) ∈ D9.rhsBatch by decide), dif_neg (show ¬(1 : Fin S2x896x18944.rank) ∈ D9.rhsNonContracting by decide)]
  rfl
theorem rhs9_2 (i : S48x18944.Idx) (q : D9.contr.Idx) : (D9.rhsIdx i q 2).val = (i 1).val := by
  unfold DotDims.rhsIdx
  rw [dif_neg (show ¬(2 : Fin S2x896x18944.rank) ∈ D9.rhsBatch by decide), dif_pos (show (2 : Fin S2x896x18944.rank) ∈ D9.rhsNonContracting by decide)]
  rfl

/-- The contraction over batches and positions. -/
theorem v9_read (i : S48x18944.Idx) :
    @Eq EReal (val_main_v9 (F := Ideal) x1 x3 r0 r1 i)
      (∑ b : Fin 2, ∑ s : Fin 896, (f2 r1 b s (i 0) * f3 x3 b s) * Math.dyb (f0 r0) (f1 x1) b s (i 1)) := by
  unfold val_main_v9
  simp only [Host.dotGeneral]
  rw [Ideal.dotGeneral_apply, sum_contr2 D9 2 896 rfl rfl rfl]
  refine Finset.sum_congr rfl fun b _ => Finset.sum_congr rfl fun s _ => ?_
  have k0 := contrEquiv2_symm_val0 D9 2 896 rfl rfl rfl (b, s)
  have k1 := contrEquiv2_symm_val1 D9 2 896 rfl rfl rfl (b, s)
  have el : D9.lhsIdx i ((contrEquiv2 D9 2 896 rfl rfl rfl).symm (b, s)) = ix3 b s (i 0) := funext fun a => Fin.ext (by
    match a with
    | ⟨0, _⟩ => exact (lhs9_0 _ _).trans k0
    | ⟨1, _⟩ => exact (lhs9_1 _ _).trans k1
    | ⟨2, _⟩ => exact lhs9_2 _ _)
  have er : D9.rhsIdx i ((contrEquiv2 D9 2 896 rfl rfl rfl).symm (b, s)) = ix3 b s (i 1) := funext fun a => Fin.ext (by
    match a with
    | ⟨0, _⟩ => exact (rhs9_0 _ _).trans k0
    | ⟨1, _⟩ => exact (rhs9_1 _ _).trans k1
    | ⟨2, _⟩ => exact rhs9_2 _ _)
  rw [el, er]
  exact congrArg₂ (fun u v : EReal => u * v) (v8_read x3 r1 (ix3 b s (i 0))) (v4_read x1 r0 (ix3 b s (i 1)))

/-- Result 2, the gradient of the up factor. -/
theorem v11_read (i : S48x18944.Idx) :
    @Eq EReal (val_main_v11 (F := Ideal) x1 x3 r0 r1 i) (Math.db (f0 r0) (f1 x1) (f2 r1) (f3 x3) (i 0) (i 1)) := by
  rw [val_main_v11_apply, val_main_v10_apply, val_main_cst_apply]
  exact congrArg (fun u : EReal => Math.two * u) (v9_read x1 x3 r0 r1 i)

/-- Result 3, the gradient of the hidden projection. -/
theorem v15_read (i : S2x896x48.Idx) :
    @Eq EReal (val_main_v15 (F := Ideal) x1 x7 r0 i) (Math.dh (f0 r0) (f1 x1) (f7 x7) (i 0) (i 1) (i 2)) := by
  rw [val_main_v15_apply, val_main_v14_apply, val_main_v13_apply, val_main_cst_0_apply, val_main_v12_apply]
  refine congrArg (fun u : EReal => Math.two * u) (Finset.sum_congr rfl fun o _ => ?_)
  have er : ridx_main_v12 i o = ix2 (i 2) o := by
    funext a; apply Fin.ext
    match a with
    | ⟨0, _⟩ => rfl
    | ⟨1, _⟩ => rfl
  rw [er]
  exact congrArg (fun u : EReal => u * f7 x7 (i 2) o) (v4_read x1 r0 (lidx_main_v12 i o))

/-- Result 1, the gradient of the input. -/
theorem v22_read (i : S2x896x3584.Idx) :
    @Eq EReal (val_main_v22 (F := Ideal) x1 x5 x6 x7 r0 r2 i)
      (Math.dx (f0 r0) (f1 x1) (f4 r2) (f5 x5) (f6 x6) (f7 x7) (i 0) (i 1) (i 2)) := by
  rw [val_main_v22_apply, val_main_v21_apply, val_main_v19_apply, val_main_v18_apply, val_main_v17_apply, val_main_v16_apply, val_main_v20_apply]
  have e5 : idx_main_v17 (idx_main_v18 i) = ix1 (i 2) := by
    funext a; apply Fin.ext
    match a with
    | ⟨0, _⟩ => rfl
  rw [e5]
  have hA : @Eq EReal (∑ o : Fin 18944, (val_main_v4 (F := Ideal) x1 r0) (lidx_main_v16 i o) * r2 (ridx_main_v16 i o))
      (∑ o : Fin 18944, Math.dyb (f0 r0) (f1 x1) (i 0) (i 1) o * f4 r2 (i 2) o) := by
    refine Finset.sum_congr rfl fun o _ => ?_
    have er : ridx_main_v16 i o = ix2 (i 2) o := by
      funext a; apply Fin.ext
      match a with
      | ⟨0, _⟩ => rfl
      | ⟨1, _⟩ => rfl
    rw [er]
    exact congrArg (fun u : EReal => u * f4 r2 (i 2) o) (v4_read x1 r0 (lidx_main_v16 i o))
  have hB : @Eq EReal (∑ r : Fin 48, (val_main_v15 (F := Ideal) x1 x7 r0) (lidx_main_v20 i r) * x6 (ridx_main_v20 i r))
      (∑ r : Fin 48, Math.dh (f0 r0) (f1 x1) (f7 x7) (i 0) (i 1) r * f6 x6 (i 2) r) := by
    refine Finset.sum_congr rfl fun r _ => ?_
    have er : ridx_main_v20 i r = ix2 (i 2) r := by
      funext a; apply Fin.ext
      match a with
      | ⟨0, _⟩ => rfl
      | ⟨1, _⟩ => rfl
    rw [er]
    exact congrArg (fun u : EReal => u * f6 x6 (i 2) r) (v15_read x1 x7 r0 (lidx_main_v20 i r))
  exact congrArg₂ (fun u v : EReal => u * f5 x5 (i 2) + v) hA hB

end Cert.ReferenceIdeal.Hand
end
-- ==== Proof.ReferenceIdeal.Result.lean ====
module

public import proofs.«01_k».proof.Proof.ReferenceIdeal.Values

@[expose] public section

/-! # The reference's run with its results as formulas

Every execution of the reference ends with the three gradients of `Cert.Math` of its arguments, the arguments unchanged. -/

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx Idealize.SL.Sem

variable (m : (ℓ : Loc nD τ sig) → Buf (Elt Ideal) ℓ) (ρ : Dev nD → PrngReg)

/-- The arguments as functions of their coordinates. -/
abbrev a0 (c : Dev nD) : Fin 2 → Fin 896 → Fin 18944 → EReal := fun b s o => m ((c.tc : Thread nD τ).loc main_arg0) (ix3 b s o)
abbrev a1 (c : Dev nD) : Fin 2 → Fin 896 → Fin 148 → EReal := fun b s k => m ((c.tc : Thread nD τ).loc main_arg1) (ix3 b s k)
abbrev a2 (c : Dev nD) : Fin 2 → Fin 896 → Fin 48 → EReal := fun b s r => m ((c.tc : Thread nD τ).loc main_arg2) (ix3 b s r)
abbrev a3 (c : Dev nD) : Fin 2 → Fin 896 → EReal := fun b s => m ((c.tc : Thread nD τ).loc main_arg3) (ix2 b s)
abbrev a4 (c : Dev nD) : Fin 3584 → Fin 18944 → EReal := fun h o => m ((c.tc : Thread nD τ).loc main_arg4) (ix2 h o)
abbrev a5 (c : Dev nD) : Fin 3584 → EReal := fun h => m ((c.tc : Thread nD τ).loc main_arg5) (ix1 h)
abbrev a6 (c : Dev nD) : Fin 3584 → Fin 48 → EReal := fun h r => m ((c.tc : Thread nD τ).loc main_arg6) (ix2 h r)
abbrev a7 (c : Dev nD) : Fin 48 → Fin 18944 → EReal := fun r o => m ((c.tc : Thread nD τ).loc main_arg7) (ix2 r o)

/-- The cast operands as functions of their coordinates are the arguments. -/
theorem f0_reg (c : Dev nD) : f0 (Value.reg_main_v0_0 (F := Ideal) m c) = a0 m c := by rw [reg_0 m c]
theorem f2_reg (c : Dev nD) : f2 (Value.reg_main_v0_1 (F := Ideal) m c) = a2 m c := by rw [reg_1 m c]
theorem f4_reg (c : Dev nD) : f4 (Value.reg_main_v0_2 (F := Ideal) m c) = a4 m c := by rw [reg_2 m c]

/-- The run: result 1 the gradient of the input, result 2 of the up factor, result 3 of the hidden projection. -/
theorem run : θ_run defs (onTc (τ := τ) (main (F := Ideal))) ⟨m, fun _ => 0, ρ⟩ fun r => ∀ c : Dev nD,
      r.2.mem ((c.tc : Thread nD τ).loc main_v22) = (fun i => (Math.dx (a0 m c) (a1 m c) (a4 m c) (a5 m c) (a6 m c) (a7 m c) (i 0) (i 1) (i 2) : EReal))
      ∧ r.2.mem ((c.tc : Thread nD τ).loc main_v11) = (fun i => (Math.db (a0 m c) (a1 m c) (a2 m c) (a3 m c) (i 0) (i 1) : EReal))
      ∧ r.2.mem ((c.tc : Thread nD τ).loc main_v15) = (fun i => (Math.dh (a0 m c) (a1 m c) (a7 m c) (i 0) (i 1) (i 2) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run (F := Ideal) m ρ)
  obtain ⟨h0, h1, h2, hr⟩ := h c
  refine ⟨?_, ?_, ?_, hr⟩
  · refine (h0.trans (show _ = val_main_v22 (F := Ideal) (m ((c.tc : Thread nD τ).loc main_arg1)) (m ((c.tc : Thread nD τ).loc main_arg5)) (m ((c.tc : Thread nD τ).loc main_arg6)) (m ((c.tc : Thread nD τ).loc main_arg7)) (Value.reg_main_v0_0 (F := Ideal) m c) (Value.reg_main_v0_2 (F := Ideal) m c) from rfl)).trans (funext fun i => ?_)
    refine (v22_read _ _ _ _ _ _ i).trans ?_
    rw [f0_reg, f4_reg]
  · refine (h1.trans (show _ = val_main_v11 (F := Ideal) (m ((c.tc : Thread nD τ).loc main_arg1)) (m ((c.tc : Thread nD τ).loc main_arg3)) (Value.reg_main_v0_0 (F := Ideal) m c) (Value.reg_main_v0_1 (F := Ideal) m c) from rfl)).trans (funext fun i => ?_)
    refine (v11_read _ _ _ _ i).trans ?_
    rw [f0_reg, f2_reg]
  · refine (h2.trans (show _ = val_main_v15 (F := Ideal) (m ((c.tc : Thread nD τ).loc main_arg1)) (m ((c.tc : Thread nD τ).loc main_arg7)) (Value.reg_main_v0_0 (F := Ideal) m c) from rfl)).trans (funext fun i => ?_)
    refine (v15_read _ _ _ i).trans ?_
    rw [f0_reg]

end Cert.ReferenceIdeal.Hand
end
-- ==== Proof.Kernel.Body0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # One grid point of the first kernel

The branch conditions in closed form, and what one run of the body leaves in each buffer: named payloads of the inputs. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store are zero. -/
theorem hz0 : (![0, 0] : Fin 2 → Nat) = fun _ => 0 := by funext a; fin_cases a <;> rfl

/-- The condition of the body's first branch: the first point of the contracted axis. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)

/-- The condition of the body's second branch: any later point of the contracted axis. -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val % 37 :=
  (by decide +kernel : ∀ t : Fin grid0.N, cond0_1 (grid0.coords t) ↔ 1 ≤ t.val % 37)

/-- The condition of the body's third branch: the last point of the contracted axis. -/
abbrev cond0_2 (i : grid0.Coords) : Prop := k0_cond3 i = 1#1
theorem hcond0_2 : ∀ t : Fin cfg0.N, cond0_2 (grid0.coords t) ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [cond0_2, k0_cond3, e0]
    word_cmp
   : ∀ t : Fin grid0.N, cond0_2 (grid0.coords t) ↔ t.val % 37 = 36)

set_option maxHeartbeats 4000000 in
/-- The body at a first point of the contracted axis: from its inputs at `x·`, every output it stores ends at the named payload
    of them and the accumulator at its new contents; the output stored only at the last point keeps what it held. -/
theorem body0_A (c : Dev nD) (i : grid0.Coords) (arg1 : Memref sig .tc .vmem S1792x512 .fp8e5m2) (harg1 : arg1.IsWhole) (arg2 : Memref sig .tc .vmem S1792x148 .f32) (harg2 : arg2.IsWhole) (arg3 : Memref sig .tc .vmem S1792x48 .fp8e4m3) (harg3 : arg3.IsWhole) (arg4 : Memref sig .tc .vmem S1792x1 .f32) (harg4 : arg4.IsWhole) (arg5 : Memref sig .tc .vmem S48x512 .bf16) (harg5 : arg5.IsWhole) (arg6 : Memref sig .tc .vmem S1792x512 .bf16) (harg6 : arg6.IsWhole) (arg7 : Memref sig .tc .vmem S48x512 .f32) (harg7 : arg7.IsWhole) (arg8 : Memref sig .tc .vmem S1792x48 .bf16) (harg8 : arg8.IsWhole) (arg9 : Memref sig .tc .vmem S1792x48 .f32) (harg9 : arg9.IsWhole)
    (hc0 : cond0_0 i) (hc1 : ¬ cond0_1 i) (hc2 : ¬ cond0_2 i)
    (x1 : Vec F S1792x512 .fp8e5m2) (x2 : Vec F S1792x148 .f32) (x3 : Vec F S1792x48 .fp8e4m3) (x4 : Vec F S1792x1 .f32) (x5 : Vec F S48x512 .bf16) (xi : Vec F S1792x48 .bf16) (E : Set ℕ) (Q : PUnit → sProp 𝕄) :
    iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ (∃ d, owns (c : Thread nD τ) arg6 fullShare d)
          ∗ (∃ d, owns (c : Thread nD τ) arg7 fullShare d)
          ∗ owns (c : Thread nD τ) arg8 fullShare xi
          ∗ (∃ d, owns (c : Thread nD τ) arg9 fullShare d)
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare (k0_pay6 i x2 x1)
          ∗ owns (c : Thread nD τ) arg7 fullShare (k0_pay1 (k0_pay6 i x2 x1) x3 x4)
          ∗ owns (c : Thread nD τ) arg8 fullShare xi
          ∗ owns (c : Thread nD τ) arg9 fullShare (k0_pay3 (k0_pay6 i x2 x1) x5)) -∗ Q ⟨⟩))
    ⊢ wp frame (wpE (defs₀ (F := F)) Variants.none c none) E (cc0_dequant i arg1 harg1 arg2 harg2 arg3 harg3 arg4 harg4 arg5 harg5 arg6 harg6 arg7 harg7 arg8 harg8 arg9 harg9) Q := by
  simp only [cc0_dequant_eq_skeleton]; unfold cc0_dequant_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; rw [View.read_writes_eq_canon _ _ _ (fun y => ⟨_, List.mem_cons_self, View.mem_set_unit_zero hz0 inb_S1792x512_S1792x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H7]
  · iexists _; isplitr
    swap; · iexact H7
    ipureintro; rw [View.read_writes_eq_canon _ _ _ (fun y => ⟨_, List.mem_cons_self, View.mem_set_unit_zero hz0 inb_S48x512_S48x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H8]
  · iexists _; isplitr; · ipureintro; exact harg8.read_unread _
    iexact H8
  iexists _; isplitr
  swap; · iexact H9
  ipureintro; rw [View.read_writes_eq_canon _ _ _ (fun y => ⟨_, List.mem_cons_self, View.mem_set_unit_zero hz0 inb_S1792x48_S1792x48_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]

set_option maxHeartbeats 4000000 in
/-- The body at a middle point of the contracted axis: from its inputs at `x·`, every output it stores ends at the named payload
    of them and the accumulator at its new contents; the output stored only at the last point keeps what it held. -/
theorem body0_B (c : Dev nD) (i : grid0.Coords) (arg1 : Memref sig .tc .vmem S1792x512 .fp8e5m2) (harg1 : arg1.IsWhole) (arg2 : Memref sig .tc .vmem S1792x148 .f32) (harg2 : arg2.IsWhole) (arg3 : Memref sig .tc .vmem S1792x48 .fp8e4m3) (harg3 : arg3.IsWhole) (arg4 : Memref sig .tc .vmem S1792x1 .f32) (harg4 : arg4.IsWhole) (arg5 : Memref sig .tc .vmem S48x512 .bf16) (harg5 : arg5.IsWhole) (arg6 : Memref sig .tc .vmem S1792x512 .bf16) (harg6 : arg6.IsWhole) (arg7 : Memref sig .tc .vmem S48x512 .f32) (harg7 : arg7.IsWhole) (arg8 : Memref sig .tc .vmem S1792x48 .bf16) (harg8 : arg8.IsWhole) (arg9 : Memref sig .tc .vmem S1792x48 .f32) (harg9 : arg9.IsWhole)
    (hc0 : ¬ cond0_0 i) (hc1 : cond0_1 i) (hc2 : ¬ cond0_2 i)
    (x1 : Vec F S1792x512 .fp8e5m2) (x2 : Vec F S1792x148 .f32) (x3 : Vec F S1792x48 .fp8e4m3) (x4 : Vec F S1792x1 .f32) (x5 : Vec F S48x512 .bf16) (xi : Vec F S1792x48 .bf16) (xs : Vec F S1792x48 .f32) (E : Set ℕ) (Q : PUnit → sProp 𝕄) :
    iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ (∃ d, owns (c : Thread nD τ) arg6 fullShare d)
          ∗ (∃ d, owns (c : Thread nD τ) arg7 fullShare d)
          ∗ owns (c : Thread nD τ) arg8 fullShare xi
          ∗ owns (c : Thread nD τ) arg9 fullShare xs
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare (k0_pay6 i x2 x1)
          ∗ owns (c : Thread nD τ) arg7 fullShare (k0_pay1 (k0_pay6 i x2 x1) x3 x4)
          ∗ owns (c : Thread nD τ) arg8 fullShare xi
          ∗ owns (c : Thread nD τ) arg9 fullShare (k0_pay4 (k0_pay6 i x2 x1) x5 xs)) -∗ Q ⟨⟩))
    ⊢ wp frame (wpE (defs₀ (F := F)) Variants.none c none) E (cc0_dequant i arg1 harg1 arg2 harg2 arg3 harg3 arg4 harg4 arg5 harg5 arg6 harg6 arg7 harg7 arg8 harg8 arg9 harg9) Q := by
  simp only [cc0_dequant_eq_skeleton]; unfold cc0_dequant_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; rw [View.read_writes_eq_canon _ _ _ (fun y => ⟨_, List.mem_cons_self, View.mem_set_unit_zero hz0 inb_S1792x512_S1792x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H7]
  · iexists _; isplitr
    swap; · iexact H7
    ipureintro; rw [View.read_writes_eq_canon _ _ _ (fun y => ⟨_, List.mem_cons_self, View.mem_set_unit_zero hz0 inb_S48x512_S48x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H8]
  · iexists _; isplitr; · ipureintro; exact harg8.read_unread _
    iexact H8
  iexists _; isplitr
  swap; · iexact H9
  ipureintro; rw [View.read_writes_eq_canon _ _ _ (fun y => ⟨_, List.mem_cons_self, View.mem_set_unit_zero hz0 inb_S1792x48_S1792x48_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]

set_option maxHeartbeats 4000000 in
/-- The body at a last point of the contracted axis: from its inputs at `x·`, every output it stores ends at the named payload
    of them and the accumulator at its new contents; the final output is stored from the new accumulator. -/
theorem body0_C (c : Dev nD) (i : grid0.Coords) (arg1 : Memref sig .tc .vmem S1792x512 .fp8e5m2) (harg1 : arg1.IsWhole) (arg2 : Memref sig .tc .vmem S1792x148 .f32) (harg2 : arg2.IsWhole) (arg3 : Memref sig .tc .vmem S1792x48 .fp8e4m3) (harg3 : arg3.IsWhole) (arg4 : Memref sig .tc .vmem S1792x1 .f32) (harg4 : arg4.IsWhole) (arg5 : Memref sig .tc .vmem S48x512 .bf16) (harg5 : arg5.IsWhole) (arg6 : Memref sig .tc .vmem S1792x512 .bf16) (harg6 : arg6.IsWhole) (arg7 : Memref sig .tc .vmem S48x512 .f32) (harg7 : arg7.IsWhole) (arg8 : Memref sig .tc .vmem S1792x48 .bf16) (harg8 : arg8.IsWhole) (arg9 : Memref sig .tc .vmem S1792x48 .f32) (harg9 : arg9.IsWhole)
    (hc0 : ¬ cond0_0 i) (hc1 : cond0_1 i) (hc2 : cond0_2 i)
    (x1 : Vec F S1792x512 .fp8e5m2) (x2 : Vec F S1792x148 .f32) (x3 : Vec F S1792x48 .fp8e4m3) (x4 : Vec F S1792x1 .f32) (x5 : Vec F S48x512 .bf16) (xs : Vec F S1792x48 .f32) (E : Set ℕ) (Q : PUnit → sProp 𝕄) :
    iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ (∃ d, owns (c : Thread nD τ) arg6 fullShare d)
          ∗ (∃ d, owns (c : Thread nD τ) arg7 fullShare d)
          ∗ (∃ d, owns (c : Thread nD τ) arg8 fullShare d)
          ∗ owns (c : Thread nD τ) arg9 fullShare xs
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare (k0_pay6 i x2 x1)
          ∗ owns (c : Thread nD τ) arg7 fullShare (k0_pay1 (k0_pay6 i x2 x1) x3 x4)
          ∗ owns (c : Thread nD τ) arg8 fullShare (k0_pay5 (k0_pay4 (k0_pay6 i x2 x1) x5 xs))
          ∗ owns (c : Thread nD τ) arg9 fullShare (k0_pay4 (k0_pay6 i x2 x1) x5 xs)) -∗ Q ⟨⟩))
    ⊢ wp frame (wpE (defs₀ (F := F)) Variants.none c none) E (cc0_dequant i arg1 harg1 arg2 harg2 arg3 harg3 arg4 harg4 arg5 harg5 arg6 harg6 arg7 harg7 arg8 harg8 arg9 harg9) Q := by
  simp only [cc0_dequant_eq_skeleton]; unfold cc0_dequant_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; (try unfold body0_C.sl.v66); (try unfold body0_C.sl.H9_1); rw [View.read_writes_eq_canon _ _ _ (fun y => ⟨_, List.mem_cons_self, View.mem_set_unit_zero hz0 inb_S1792x512_S1792x512_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]
  isplitl [H7]
  · iexists _; isplitr
    swap; · iexact H7
    ipureintro; (try unfold body0_C.sl.v66); (try unfold body0_C.sl.H9_1); rw [View.read_writes_eq_canon _ _ _ (fun y => ⟨_, List.mem_cons_self, View.mem_set_unit_zero hz0 inb_S48x512_S48x512_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]
  isplitl [H8]
  · iexists _; isplitr
    swap; · iexact H8
    ipureintro; (try unfold body0_C.sl.v66); (try unfold body0_C.sl.H9_1); rw [View.read_writes_eq_canon _ _ _ (fun y => ⟨_, List.mem_cons_self, View.mem_set_unit_zero hz0 inb_S1792x48_S1792x48_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]
  iexists _; isplitr
  swap; · iexact H9
  ipureintro; (try unfold body0_C.sl.v66); (try unfold body0_C.sl.H9_1); rw [View.read_writes_eq_canon _ _ _ (fun y => ⟨_, List.mem_cons_self, View.mem_set_unit_zero hz0 inb_S1792x48_S1792x48_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]

end Cert.Kernel.Hand

end
-- ==== Proof.Kernel.Data0.lean ====
module

public import proofs.«01_k».proof.Proof.Kernel.Body0
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # The first kernel over its grid

The proof data of its pipeline at any contents `V` its arrays are entered at: what each window holds after every point, the
accumulator carried from point to point, and the obligation that the body does exactly that. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data entered at `V` that leave it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, for any proof data entered at `V` that leave it there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, for any proof data entered at `V` that leave it there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, for any proof data entered at `V` that leave it there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, for any proof data entered at `V` that leave it there. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The block of rescaled gradients the body stores at point `t`. -/
def dyb0 (c : Dev nD) (t : Fin cfg0.N) : Vec F S1792x512 .bf16 := k0_pay6 (grid0.coords t) (iblk0 V c 1 t) (iblk0 V c 0 t)
/-- The block of the second factor's gradient the body stores at point `t`. -/
def db0 (c : Dev nD) (t : Fin cfg0.N) : Vec F S48x512 .f32 := k0_pay1 (dyb0 V c t) (iblk0 V c 2 t) (iblk0 V c 3 t)

/-- The accumulator after point `n`: restarted at the first point of the contracted axis, else added to. -/
def acc0 (c : Dev nD) : (n : ℕ) → n < cfg0.N → Vec F S1792x48 .f32
  | 0, h => k0_pay3 (dyb0 V c ⟨0, h⟩) (iblk0 V c 4 ⟨0, h⟩)
  | n + 1, h => if (n + 1) % 37 = 0 then k0_pay3 (dyb0 V c ⟨n + 1, h⟩) (iblk0 V c 4 ⟨n + 1, h⟩)
      else k0_pay4 (dyb0 V c ⟨n + 1, h⟩) (iblk0 V c 4 ⟨n + 1, h⟩) (acc0 c n (Nat.lt_of_succ_lt h))

theorem acc0_first (c : Dev nD) (t : Fin cfg0.N) (h : t.val % 37 = 0) :
    acc0 V c t.val t.isLt = k0_pay3 (dyb0 V c t) (iblk0 V c 4 t) := by
  obtain ⟨n, hn⟩ := t
  cases n with
  | zero => rfl
  | succ n => exact if_pos h

theorem acc0_next (c : Dev nD) (t : Fin cfg0.N) (h : ¬ t.val % 37 = 0) :
    acc0 V c t.val t.isLt = k0_pay4 (dyb0 V c t) (iblk0 V c 4 t) (acc0 V c (t.val - 1) (Nat.lt_of_le_of_lt (Nat.sub_le _ _) t.isLt)) := by
  obtain ⟨n, hn⟩ := t
  cases n with
  | zero => exact absurd (Nat.zero_mod _) h
  | succ n => exact if_neg h

/-- The accumulator's buffer. -/
abbrev scM0 : Memref sig .tc .vmem S1792x48 .f32 := Memref.whole cc0_scratch0

/-- The scoped buffers that are neither a staging buffer of this pipeline nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region's kit hands the body besides its windows: the accumulator at some contents, the other scoped buffers and
    the generator register. -/
theorem PhiA0_eq (c : Dev nD) :
    (Pipeline.ΦA spec0 c : sProp 𝕄) = iprop(iprop((∃ d, owns (c : Thread nD τ) scM0 fullShare d) ∗ rest0 (F := F) c) ∗ (∃ r, prngReg c r)) := by
  unfold Pipeline.ΦA
  rw [Pipeline.scopedRest_eq_of_list spec0 c [cc0_scratch0, cc1_stg0_0, cc1_stg0_1, cc1_stg1_0, cc1_stg1_1, cc1_stg2_0, cc1_stg2_1, cc1_stg3_0, cc1_stg4_0, cc1_stg4_1, cc1_stg5_0, cc1_stg5_1, cc1_scratch0] (by decide) (by decide)]
  simp only [scM0, owns_whole]; rfl

/-- The invariant before position `n`: before the first point the kit's own; afterwards the accumulator at what the point before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Phi0_zero (c : Dev nD) (n : ℕ) (h : n ≤ cfg0.N) (hz0 : n = 0) : Phi0 V c n h = Pipeline.ΦA spec0 c := by
  subst hz0; rfl
theorem Phi0_succ (c : Dev nD) (n : ℕ) (hn : n < cfg0.N) :
    Phi0 V c (n + 1) hn = iprop(iprop(owns (c : Thread nD τ) scM0 fullShare (acc0 V c n hn) ∗ rest0 (F := F) c) ∗ (∃ r, prngReg c r)) := rfl
theorem Phi0_pos (c : Dev nD) (n : ℕ) (h : n ≤ cfg0.N) (hz0 : n ≠ 0) :
    Phi0 V c n h = iprop(iprop(owns (c : Thread nD τ) scM0 fullShare (acc0 V c (n - 1) (by omega)) ∗ rest0 (F := F) c) ∗ (∃ r, prngReg c r)) := by
  cases n with
  | zero => exact absurd rfl hz0
  | succ n => rfl

/-- The pipeline's proof data: arrays as the region finds them, every input's buffer at its block, every output's at what the
    body stores, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => dyb0 V c t
    | ⟨6, _⟩ => db0 V c t
    | ⟨7, _⟩ => k0_pay5 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = dyb0 V c t := by dsimp only [dat0]
theorem after0_6 (c : Dev nD) (t : Fin cfg0.N) : (dat0 V c).after 6 t = db0 V c t := by dsimp only [dat0]
theorem after0_7 (c : Dev nD) (t : Fin cfg0.N) : (dat0 V c).after 7 t = k0_pay5 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl
/-- The output stored only at the last point of the contracted axis is idle, and not written back, before it. -/
theorem idle0 : ∀ t : Fin cfg0.N, ¬ t.val % 37 = 36 → cfg0.idle 7 (grid0.coords t) = true :=
  (by decide +kernel : ∀ t : Fin grid0.N, ¬ t.val % 37 = 36 → cfg0.idle 7 (grid0.coords t) = true)
theorem noFlush0 : ∀ t : Fin cfg0.N, ¬ t.val % 37 = 36 → (cfg0.win 7).flush t = false :=
  (by decide +kernel : ∀ t : Fin grid0.N, ¬ t.val % 37 = 36 → (cfg0.win 7).flush t = false)
theorem live0_7 : ∀ t : Fin cfg0.N, t.val % 37 = 36 → cfg0.idle 7 (grid0.coords t) = false :=
  (by decide +kernel : ∀ t : Fin grid0.N, t.val % 37 = 36 → cfg0.idle 7 (grid0.coords t) = false)

abbrev ms0_0 (t : Fin cfg0.N) : Memref sig .tc .vmem S1792x512 .fp8e5m2 := win0_0.stage (cfg0.slots t 0)
abbrev ms0_1 (t : Fin cfg0.N) : Memref sig .tc .vmem S1792x148 .f32 := win0_1.stage (cfg0.slots t 1)
abbrev ms0_2 (t : Fin cfg0.N) : Memref sig .tc .vmem S1792x48 .fp8e4m3 := win0_2.stage (cfg0.slots t 2)
abbrev ms0_3 (t : Fin cfg0.N) : Memref sig .tc .vmem S1792x1 .f32 := win0_3.stage (cfg0.slots t 3)
abbrev ms0_4 (t : Fin cfg0.N) : Memref sig .tc .vmem S48x512 .bf16 := win0_4.stage (cfg0.slots t 4)
abbrev ms0_5 (t : Fin cfg0.N) : Memref sig .tc .vmem S1792x512 .bf16 := win0_5.stage (cfg0.slots t 5)
abbrev ms0_6 (t : Fin cfg0.N) : Memref sig .tc .vmem S48x512 .f32 := win0_6.stage (cfg0.slots t 6)
abbrev ms0_7 (t : Fin cfg0.N) : Memref sig .tc .vmem S1792x48 .bf16 := win0_7.stage (cfg0.slots t 7)

/-- What the body is called with at point `t`, the windows one by one, -/
def bodyPre0 (c : Dev nD) (t : Fin cfg0.N) : sProp 𝕄 :=
  iprop((dat0 V c).Φ t.castSucc
    ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))
/-- and what it returns. -/
def bodyPost0 (c : Dev nD) (t : Fin cfg0.N) : sProp 𝕄 :=
  iprop((dat0 V c).Φ t.succ
    ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 9600000 in
/-- The body at any point does what the proof data say. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Phi0 V c (t.val + 1) t.isLt from rfl, Phi0_succ]
  have hN : t.val < 37 := lt_of_lt_of_eq t.isLt (show cfg0.N = 37 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  rw [show (dat0 V c).leavesExact 6 t = owns (c : Thread nD τ) (ms0_6 t) fullShare ((dat0 V c).after 6 t) from by
    unfold Dat.leavesExact; rw [live0_6 t], after0_6]
  by_cases h0 : t.val % 37 = 0
  · rw [Dat.leavesExact_idle (dat0 V c) 7 t (idle0 t (by omega)) (noFlush0 t (by omega))]
    rw [acc0_first V c t h0]
    by_cases hz0 : t.val = 0
    · rw [Phi0_castSucc V c t, Phi0_zero V c _ _ hz0, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_A c (grid0.coords t) _ _ _ _ _ _ _ _ _ _ _ _ _ _ _ _ _ _ ((hcond0_0 t).mpr h0) (fun h => absurd ((hcond0_1 t).mp h) (by omega)) (fun h => absurd ((hcond0_2 t).mp h) (by omega)) (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · exfalso; omega
  · rw [Phi0_castSucc V c t, Phi0_pos V c _ _ (by omega), acc0_next V c t h0]
    by_cases h2 : t.val % 37 = 36
    · rw [show (dat0 V c).leavesExact 7 t = owns (c : Thread nD τ) (ms0_7 t) fullShare ((dat0 V c).after 7 t) from by
        unfold Dat.leavesExact; rw [live0_7 t h2], after0_7, acc0_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_C c (grid0.coords t) _ _ _ _ _ _ _ _ _ _ _ _ _ _ _ _ _ _ (fun h => absurd ((hcond0_0 t).mp h) h0) ((hcond0_1 t).mpr (by omega)) ((hcond0_2 t).mpr h2) (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat0 V c) 7 t (idle0 t h2) (noFlush0 t h2)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_B c (grid0.coords t) _ _ _ _ _ _ _ _ _ _ _ _ _ _ _ _ _ _ (fun h => absurd ((hcond0_0 t).mp h) h0) ((hcond0_1 t).mpr (by omega)) (fun h => absurd ((hcond0_2 t).mp h) h2) (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body table's row at point `t`'s slots is the body as called. -/
theorem defs₀_row0 (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The invariant after the last point forgets the accumulator's contents. -/
theorem Phi_out0 (c : Dev nD) : (dat0 V c).Φ (Fin.last cfg0.N) ⊢ Pipeline.ΦA spec0 c := by
  rw [show (dat0 V c).Φ (Fin.last cfg0.N) = Phi0 V c cfg0.N (Nat.le_refl _) from rfl, Phi0_pos V c _ _ (by rw [show cfg0.N = 37 from N_0]; omega), PhiA0_eq]
  iintro ⟨⟨HS, HR⟩, Hg⟩
  isplitl [HS HR]
  · isplitl [HS]
    · iexists _; iexact HS
    iexact HR
  iexact Hg

end Cert.Kernel.Hand

end
-- ==== Proof.Kernel.Body1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # One grid point of the second kernel

The branch conditions in closed form, and what one run of the body leaves in each buffer: named payloads of the inputs. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store are zero. -/
theorem hz1 : (![0, 0] : Fin 2 → Nat) = fun _ => 0 := by funext a; fin_cases a <;> rfl

/-- The condition of the body's first branch: the first point of the contracted axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (fun t => by
    have ht : t.val < 28 := Nat.lt_of_lt_of_eq t.isLt N_1
    have e0 : (grid1.coords t 0).val = t.val / 4 % 7 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-- The condition of the body's second branch: any later point of the contracted axis. -/
abbrev cond1_1 (i : grid1.Coords) : Prop := (Scalar.cmpi .ne (Scalar.extui (Scalar.cmpi .sgt (BitVec.ofNat 32 (i 1).val) 0#32)) 0#32) = 1#1
theorem hcond1_1 : ∀ t : Fin cfg1.N, cond1_1 (grid1.coords t) ↔ 1 ≤ t.val % 4 :=
  (by decide +kernel : ∀ t : Fin grid1.N, cond1_1 (grid1.coords t) ↔ 1 ≤ t.val % 4)

/-- The condition of the body's third branch: the last point of the contracted axis. -/
abbrev cond1_2 (i : grid1.Coords) : Prop := k1_cond3 i = 1#1
theorem hcond1_2 : ∀ t : Fin cfg1.N, cond1_2 (grid1.coords t) ↔ t.val % 4 = 3 :=
  (fun t => by
    have ht : t.val < 28 := Nat.lt_of_lt_of_eq t.isLt N_1
    have e0 : (grid1.coords t 0).val = t.val / 4 % 7 := Pipeline.Grid.coords_val t 0 (by decide) rfl
    have e1 : (grid1.coords t 1).val = t.val / 1 % 4 := Pipeline.Grid.coords_val t 1 (by decide) rfl
    simp only [cond1_2, k1_cond3, e0, e1]
    word_cmp
   : ∀ t : Fin grid1.N, cond1_2 (grid1.coords t) ↔ t.val % 4 = 3)

set_option maxHeartbeats 4000000 in
/-- The body at a first point of the contracted axis: from its inputs at `x·`, every output it stores ends at the named payload
    of them and the accumulator at its new contents; the output stored only at the last point keeps what it held. -/
theorem body1_A (c : Dev nD) (i : grid1.Coords) (arg2 : Memref sig .tc .vmem S1792x4736 .bf16) (harg2 : arg2.IsWhole) (arg3 : Memref sig .tc .vmem S512x4736 .fp8e4m3) (harg3 : arg3.IsWhole) (arg4 : Memref sig .tc .vmem S1x512 .f32) (harg4 : arg4.IsWhole) (arg5 : Memref sig .tc .vmem S1792x48 .bf16) (harg5 : arg5.IsWhole) (arg6 : Memref sig .tc .vmem S512x48 .bf16) (harg6 : arg6.IsWhole) (arg7 : Memref sig .tc .vmem S1792x512 .bf16) (harg7 : arg7.IsWhole) (arg8 : Memref sig .tc .vmem S1792x512 .f32) (harg8 : arg8.IsWhole)
    (hc0 : cond1_0 i) (hc1 : ¬ cond1_1 i) (hc2 : ¬ cond1_2 i)
    (x2 : Vec F S1792x4736 .bf16) (x3 : Vec F S512x4736 .fp8e4m3) (x4 : Vec F S1x512 .f32) (x5 : Vec F S1792x48 .bf16) (x6 : Vec F S512x48 .bf16) (xi : Vec F S1792x512 .bf16) (E : Set ℕ) (Q : PUnit → sProp 𝕄) :
    iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ (∃ d, owns (c : Thread nD τ) arg8 fullShare d)
      ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ owns (c : Thread nD τ) arg8 fullShare (k1_pay2 x2 x3)) -∗ Q ⟨⟩))
    ⊢ wp frame (wpE (defs₀ (F := F)) Variants.none c none) E (cc1_dx i arg2 harg2 arg3 harg3 arg4 harg4 arg5 harg5 arg6 harg6 arg7 harg7 arg8 harg8) Q := by
  simp only [cc1_dx_eq_skeleton]; unfold cc1_dx_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro; rw [View.read_writes_eq_canon _ _ _ (fun y => ⟨_, List.mem_cons_self, View.mem_set_unit_zero hz1 inb_S1792x512_S1792x512_0_0 y⟩), View.canon_cons_unit_zero hz1]; (try rw [View.readCov_full]); (repeat rw [View.readAt_full]); simp only [harg2.read_unread, harg3.read_unread, harg4.read_unread, harg5.read_unread, harg6.read_unread, harg7.read_unread, harg8.read_unread]

set_option maxHeartbeats 4000000 in
/-- The body at a middle point of the contracted axis: from its inputs at `x·`, every output it stores ends at the named payload
    of them and the accumulator at its new contents; the output stored only at the last point keeps what it held. -/
theorem body1_B (c : Dev nD) (i : grid1.Coords) (arg2 : Memref sig .tc .vmem S1792x4736 .bf16) (harg2 : arg2.IsWhole) (arg3 : Memref sig .tc .vmem S512x4736 .fp8e4m3) (harg3 : arg3.IsWhole) (arg4 : Memref sig .tc .vmem S1x512 .f32) (harg4 : arg4.IsWhole) (arg5 : Memref sig .tc .vmem S1792x48 .bf16) (harg5 : arg5.IsWhole) (arg6 : Memref sig .tc .vmem S512x48 .bf16) (harg6 : arg6.IsWhole) (arg7 : Memref sig .tc .vmem S1792x512 .bf16) (harg7 : arg7.IsWhole) (arg8 : Memref sig .tc .vmem S1792x512 .f32) (harg8 : arg8.IsWhole)
    (hc0 : ¬ cond1_0 i) (hc1 : cond1_1 i) (hc2 : ¬ cond1_2 i)
    (x2 : Vec F S1792x4736 .bf16) (x3 : Vec F S512x4736 .fp8e4m3) (x4 : Vec F S1x512 .f32) (x5 : Vec F S1792x48 .bf16) (x6 : Vec F S512x48 .bf16) (xi : Vec F S1792x512 .bf16) (xs : Vec F S1792x512 .f32) (E : Set ℕ) (Q : PUnit → sProp 𝕄) :
    iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ owns (c : Thread nD τ) arg8 fullShare xs
      ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ owns (c : Thread nD τ) arg8 fullShare (k1_pay3 x2 x3 xs)) -∗ Q ⟨⟩))
    ⊢ wp frame (wpE (defs₀ (F := F)) Variants.none c none) E (cc1_dx i arg2 harg2 arg3 harg3 arg4 harg4 arg5 harg5 arg6 harg6 arg7 harg7 arg8 harg8) Q := by
  simp only [cc1_dx_eq_skeleton]; unfold cc1_dx_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro; rw [View.read_writes_eq_canon _ _ _ (fun y => ⟨_, List.mem_cons_self, View.mem_set_unit_zero hz1 inb_S1792x512_S1792x512_0_0 y⟩), View.canon_cons_unit_zero hz1]; (try rw [View.readCov_full]); (repeat rw [View.readAt_full]); simp only [harg2.read_unread, harg3.read_unread, harg4.read_unread, harg5.read_unread, harg6.read_unread, harg7.read_unread, harg8.read_unread]

set_option maxHeartbeats 4000000 in
/-- The body at a last point of the contracted axis: from its inputs at `x·`, every output it stores ends at the named payload
    of them and the accumulator at its new contents; the final output is stored from the new accumulator. -/
theorem body1_C (c : Dev nD) (i : grid1.Coords) (arg2 : Memref sig .tc .vmem S1792x4736 .bf16) (harg2 : arg2.IsWhole) (arg3 : Memref sig .tc .vmem S512x4736 .fp8e4m3) (harg3 : arg3.IsWhole) (arg4 : Memref sig .tc .vmem S1x512 .f32) (harg4 : arg4.IsWhole) (arg5 : Memref sig .tc .vmem S1792x48 .bf16) (harg5 : arg5.IsWhole) (arg6 : Memref sig .tc .vmem S512x48 .bf16) (harg6 : arg6.IsWhole) (arg7 : Memref sig .tc .vmem S1792x512 .bf16) (harg7 : arg7.IsWhole) (arg8 : Memref sig .tc .vmem S1792x512 .f32) (harg8 : arg8.IsWhole)
    (hc0 : ¬ cond1_0 i) (hc1 : cond1_1 i) (hc2 : cond1_2 i)
    (x2 : Vec F S1792x4736 .bf16) (x3 : Vec F S512x4736 .fp8e4m3) (x4 : Vec F S1x512 .f32) (x5 : Vec F S1792x48 .bf16) (x6 : Vec F S512x48 .bf16) (xs : Vec F S1792x512 .f32) (E : Set ℕ) (Q : PUnit → sProp 𝕄) :
    iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ (∃ d, owns (c : Thread nD τ) arg7 fullShare d)
          ∗ owns (c : Thread nD τ) arg8 fullShare xs
      ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare (k1_pay4 x5 x6 (k1_pay3 x2 x3 xs) x4)
          ∗ owns (c : Thread nD τ) arg8 fullShare (k1_pay3 x2 x3 xs)) -∗ Q ⟨⟩))
    ⊢ wp frame (wpE (defs₀ (F := F)) Variants.none c none) E (cc1_dx i arg2 harg2 arg3 harg3 arg4 harg4 arg5 harg5 arg6 harg6 arg7 harg7 arg8 harg8) Q := by
  simp only [cc1_dx_eq_skeleton]; unfold cc1_dx_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; (try unfold body1_C.sl.v18); (try unfold body1_C.sl.H8_1); rw [View.read_writes_eq_canon _ _ _ (fun y => ⟨_, List.mem_cons_self, View.mem_set_unit_zero hz1 inb_S1792x512_S1792x512_0_0 y⟩), View.canon_cons_unit_zero hz1]; (try unfold body1_C.sl.v18); (try unfold body1_C.sl.H8_1); (try rw [View.readCov_full]); (repeat rw [View.readAt_full]); simp only [harg2.read_unread, harg3.read_unread, harg4.read_unread, harg5.read_unread, harg6.read_unread, harg7.read_unread, harg8.read_unread]
  iexists _; isplitr
  swap; · iexact H8
  ipureintro; (try unfold body1_C.sl.v18); (try unfold body1_C.sl.H8_1); rw [View.read_writes_eq_canon _ _ _ (fun y => ⟨_, List.mem_cons_self, View.mem_set_unit_zero hz1 inb_S1792x512_S1792x512_0_0 y⟩), View.canon_cons_unit_zero hz1]; (try unfold body1_C.sl.v18); (try unfold body1_C.sl.H8_1); (try rw [View.readCov_full]); (repeat rw [View.readAt_full]); simp only [harg2.read_unread, harg3.read_unread, harg4.read_unread, harg5.read_unread, harg6.read_unread, harg7.read_unread, harg8.read_unread]

end Cert.Kernel.Hand

end
-- ==== Proof.Kernel.Data1.lean ====
module

public import proofs.«01_k».proof.Proof.Kernel.Body1
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # The second kernel over its grid

The proof data of its pipeline at any contents `V` its arrays are entered at: what each window holds after every point, the
accumulator carried from point to point, and the obligation that the body does exactly that. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data entered at `V` that leave it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, for any proof data entered at `V` that leave it there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, for any proof data entered at `V` that leave it there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, for any proof data entered at `V` that leave it there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, for any proof data entered at `V` that leave it there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The accumulator after point `n`: restarted at the first point of the contracted axis, else added to. -/
def acc1 (c : Dev nD) : (n : ℕ) → n < cfg1.N → Vec F S1792x512 .f32
  | 0, h => k1_pay2 (iblk1 V c 0 ⟨0, h⟩) (iblk1 V c 1 ⟨0, h⟩)
  | n + 1, h => if (n + 1) % 4 = 0 then k1_pay2 (iblk1 V c 0 ⟨n + 1, h⟩) (iblk1 V c 1 ⟨n + 1, h⟩)
      else k1_pay3 (iblk1 V c 0 ⟨n + 1, h⟩) (iblk1 V c 1 ⟨n + 1, h⟩) (acc1 c n (Nat.lt_of_succ_lt h))

theorem acc1_first (c : Dev nD) (t : Fin cfg1.N) (h : t.val % 4 = 0) :
    acc1 V c t.val t.isLt = k1_pay2 (iblk1 V c 0 t) (iblk1 V c 1 t) := by
  obtain ⟨n, hn⟩ := t
  cases n with
  | zero => rfl
  | succ n => exact if_pos h

theorem acc1_next (c : Dev nD) (t : Fin cfg1.N) (h : ¬ t.val % 4 = 0) :
    acc1 V c t.val t.isLt = k1_pay3 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator's buffer. -/
abbrev scM1 : Memref sig .tc .vmem S1792x512 .f32 := Memref.whole cc1_scratch0

/-- The scoped buffers that are neither a staging buffer of this pipeline nor its accumulator, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f))

/-- What the region's kit hands the body besides its windows: the accumulator at some contents, the other scoped buffers and
    the generator register. -/
theorem PhiA1_eq (c : Dev nD) :
    (Pipeline.ΦA spec1 c : sProp 𝕄) = iprop(iprop((∃ d, owns (c : Thread nD τ) scM1 fullShare d) ∗ rest1 (F := F) c) ∗ (∃ r, prngReg c r)) := by
  unfold Pipeline.ΦA
  rw [Pipeline.scopedRest_eq_of_list spec1 c [cc1_scratch0, cc0_stg0_0, cc0_stg0_1, cc0_stg1_0, cc0_stg2_0, cc0_stg3_0, cc0_stg4_0, cc0_stg4_1, cc0_stg5_0, cc0_stg5_1, cc0_stg6_0, cc0_stg6_1, cc0_stg7_0, cc0_scratch0] (by decide) (by decide)]
  simp only [scM1, owns_whole]; rfl

/-- The invariant before position `n`: before the first point the kit's own; afterwards the accumulator at what the point before left. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem Phi1_zero (c : Dev nD) (n : ℕ) (h : n ≤ cfg1.N) (hz1 : n = 0) : Phi1 V c n h = Pipeline.ΦA spec1 c := by
  subst hz1; rfl
theorem Phi1_succ (c : Dev nD) (n : ℕ) (hn : n < cfg1.N) :
    Phi1 V c (n + 1) hn = iprop(iprop(owns (c : Thread nD τ) scM1 fullShare (acc1 V c n hn) ∗ rest1 (F := F) c) ∗ (∃ r, prngReg c r)) := rfl
theorem Phi1_pos (c : Dev nD) (n : ℕ) (h : n ≤ cfg1.N) (hz1 : n ≠ 0) :
    Phi1 V c n h = iprop(iprop(owns (c : Thread nD τ) scM1 fullShare (acc1 V c (n - 1) (by omega)) ∗ rest1 (F := F) c) ∗ (∃ r, prngReg c r)) := by
  cases n with
  | zero => exact absurd rfl hz1
  | succ n => rfl

/-- The pipeline's proof data: arrays as the region finds them, every input's buffer at its block, every output's at what the
    body stores, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay4 (iblk1 V c 3 t) (iblk1 V c 4 t) (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay4 (iblk1 V c 3 t) (iblk1 V c 4 t) (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
/-- The output stored only at the last point of the contracted axis is idle, and not written back, before it. -/
theorem idle1 : ∀ t : Fin cfg1.N, ¬ t.val % 4 = 3 → cfg1.idle 5 (grid1.coords t) = true :=
  (by decide +kernel : ∀ t : Fin grid1.N, ¬ t.val % 4 = 3 → cfg1.idle 5 (grid1.coords t) = true)
theorem noFlush1 : ∀ t : Fin cfg1.N, ¬ t.val % 4 = 3 → (cfg1.win 5).flush t = false :=
  (by decide +kernel : ∀ t : Fin grid1.N, ¬ t.val % 4 = 3 → (cfg1.win 5).flush t = false)
theorem live1_5 : ∀ t : Fin cfg1.N, t.val % 4 = 3 → cfg1.idle 5 (grid1.coords t) = false :=
  (by decide +kernel : ∀ t : Fin grid1.N, t.val % 4 = 3 → cfg1.idle 5 (grid1.coords t) = false)

abbrev ms1_0 (t : Fin cfg1.N) : Memref sig .tc .vmem S1792x4736 .bf16 := win1_0.stage (cfg1.slots t 0)
abbrev ms1_1 (t : Fin cfg1.N) : Memref sig .tc .vmem S512x4736 .fp8e4m3 := win1_1.stage (cfg1.slots t 1)
abbrev ms1_2 (t : Fin cfg1.N) : Memref sig .tc .vmem S1x512 .f32 := win1_2.stage (cfg1.slots t 2)
abbrev ms1_3 (t : Fin cfg1.N) : Memref sig .tc .vmem S1792x48 .bf16 := win1_3.stage (cfg1.slots t 3)
abbrev ms1_4 (t : Fin cfg1.N) : Memref sig .tc .vmem S512x48 .bf16 := win1_4.stage (cfg1.slots t 4)
abbrev ms1_5 (t : Fin cfg1.N) : Memref sig .tc .vmem S1792x512 .bf16 := win1_5.stage (cfg1.slots t 5)

/-- What the body is called with at point `t`, the windows one by one, -/
def bodyPre1 (c : Dev nD) (t : Fin cfg1.N) : sProp 𝕄 :=
  iprop((dat1 V c).Φ t.castSucc
    ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- and what it returns. -/
def bodyPost1 (c : Dev nD) (t : Fin cfg1.N) : sProp 𝕄 :=
  iprop((dat1 V c).Φ t.succ
    ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 9600000 in
/-- The body at any point does what the proof data say. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  have hN : t.val < 28 := lt_of_lt_of_eq t.isLt (show cfg1.N = 28 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  by_cases h0 : t.val % 4 = 0
  · rw [Dat.leavesExact_idle (dat1 V c) 5 t (idle1 t (by omega)) (noFlush1 t (by omega))]
    rw [acc1_first V c t h0]
    by_cases hz1 : t.val = 0
    · rw [Phi1_castSucc V c t, Phi1_zero V c _ _ hz1, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_A c (grid1.coords t) _ _ _ _ _ _ _ _ _ _ _ _ _ _ ((hcond1_0 t).mpr h0) (fun h => absurd ((hcond1_1 t).mp h) (by omega)) (fun h => absurd ((hcond1_2 t).mp h) (by omega)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi1_castSucc V c t, Phi1_pos V c _ _ hz1]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_A c (grid1.coords t) _ _ _ _ _ _ _ _ _ _ _ _ _ _ ((hcond1_0 t).mpr h0) (fun h => absurd ((hcond1_1 t).mp h) (by omega)) (fun h => absurd ((hcond1_2 t).mp h) (by omega)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · rw [Phi1_castSucc V c t, Phi1_pos V c _ _ (by omega), acc1_next V c t h0]
    by_cases h2 : t.val % 4 = 3
    · rw [show (dat1 V c).leavesExact 5 t = owns (c : Thread nD τ) (ms1_5 t) fullShare ((dat1 V c).after 5 t) from by
        unfold Dat.leavesExact; rw [live1_5 t h2], after1_5, acc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_C c (grid1.coords t) _ _ _ _ _ _ _ _ _ _ _ _ _ _ (fun h => absurd ((hcond1_0 t).mp h) h0) ((hcond1_1 t).mpr (by omega)) ((hcond1_2 t).mpr h2) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idle1 t h2) (noFlush1 t h2)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_B c (grid1.coords t) _ _ _ _ _ _ _ _ _ _ _ _ _ _ (fun h => absurd ((hcond1_0 t).mp h) h0) ((hcond1_1 t).mpr (by omega)) (fun h => absurd ((hcond1_2 t).mp h) h2) (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body as called. -/
theorem defs₀_row1 (t : Fin cfg1.N) :
    defs₀ (F := F) .tc cfg1.body (cfg1.bodyArgs t (cfg1.slots t)) = bodyAt1 t := by
  unfold defs₀; rw [Defs.onTc_tc]

/-- The pipeline library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The invariant after the last point forgets the accumulator's contents. -/
theorem Phi_out1 (c : Dev nD) : (dat1 V c).Φ (Fin.last cfg1.N) ⊢ Pipeline.ΦA spec1 c := by
  rw [show (dat1 V c).Φ (Fin.last cfg1.N) = Phi1 V c cfg1.N (Nat.le_refl _) from rfl, Phi1_pos V c _ _ (by rw [show cfg1.N = 28 from N_1]; omega), PhiA1_eq]
  iintro ⟨⟨HS, HR⟩, Hg⟩
  isplitl [HS HR]
  · isplitl [HS]
    · iexists _; iexact HS
    iexact HR
  iexact Hg

end Cert.Kernel.Hand

end
-- ==== Proof.Kernel.Run.lean ====
module

public import proofs.«01_k».proof.Proof.Kernel.Data0
public import proofs.«01_k».proof.Proof.Kernel.Data1
public import proofs.«01_k».proof.Proof.Gen.Kernel.Regions
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # The whole program's run

The buffers' contents at every boundary of the program (host stretch, first kernel, host stretch, second kernel, host
stretch), the two kernels as segments, and the run: every final state holds exactly the last boundary's contents. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7]
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references. -/
abbrev V1 : (c : Dev nD) → (b : Ref sig .tc) → Buf (Elt F) ((c : Thread nD τ).loc b) := fun c b => W1 m ρ c b

/-- After kernel 0: its arrays at what the pipeline leaves, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of the kernel's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references. -/
abbrev V3 : (c : Dev nD) → (b : Ref sig .tc) → Buf (Elt F) ((c : Thread nD τ).loc b) := fun c b => W3 m ρ c b

/-- After kernel 1: its arrays at what the pipeline leaves, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of the kernel's output arrays keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references. -/
abbrev V5 : (c : Dev nD) → (b : Ref sig .tc) → Buf (Elt F) ((c : Thread nD τ).loc b) := fun c b => W5 m ρ c b

/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Kernel 0 over the thread state: entered from every unscoped buffer at one boundary's contents, left at the next one's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at one boundary's contents, left at the next one's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev hsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (hsegs m ρ) := (main_chain c).trans (by chain_rfl)

set_option backward.isDefEq.respectTransparency.types false in
/-- Every weakly fair execution from memory `m` with zero counters terminates without fault, every unscoped buffer then holds the
    last boundary's contents, and every semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (regions_no_unscoped g.2))⟩)

/-- The frame: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c _ (mem_uc main_arg0 (by decide))).trans (W5_args m ρ c main_arg0 (by decide)),
      (h.1 c _ (mem_uc main_arg1 (by decide))).trans (W5_args m ρ c main_arg1 (by decide)),
      (h.1 c _ (mem_uc main_arg2 (by decide))).trans (W5_args m ρ c main_arg2 (by decide)),
      (h.1 c _ (mem_uc main_arg3 (by decide))).trans (W5_args m ρ c main_arg3 (by decide)),
      (h.1 c _ (mem_uc main_arg4 (by decide))).trans (W5_args m ρ c main_arg4 (by decide)),
      (h.1 c _ (mem_uc main_arg5 (by decide))).trans (W5_args m ρ c main_arg5 (by decide)),
      (h.1 c _ (mem_uc main_arg6 (by decide))).trans (W5_args m ρ c main_arg6 (by decide)),
      (h.1 c _ (mem_uc main_arg7 (by decide))).trans (W5_args m ρ c main_arg7 (by decide))⟩, h.2⟩) (run m ρ)

end Cert.Kernel.Hand

end
-- ==== Proof.KernelIdeal.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # One grid point of the first kernel

The branch conditions in closed form, and what one run of the body leaves in each buffer: named payloads of the inputs. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store are zero. -/
theorem hz0 : (![0, 0] : Fin 2 → Nat) = fun _ => 0 := by funext a; fin_cases a <;> rfl

/-- The condition of the body's first branch: the first point of the contracted axis. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)

/-- The condition of the body's second branch: any later point of the contracted axis. -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val % 37 :=
  (by decide +kernel : ∀ t : Fin grid0.N, cond0_1 (grid0.coords t) ↔ 1 ≤ t.val % 37)

/-- The condition of the body's third branch: the last point of the contracted axis. -/
abbrev cond0_2 (i : grid0.Coords) : Prop := k0_cond3 i = 1#1
theorem hcond0_2 : ∀ t : Fin cfg0.N, cond0_2 (grid0.coords t) ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [cond0_2, k0_cond3, e0]
    word_cmp
   : ∀ t : Fin grid0.N, cond0_2 (grid0.coords t) ↔ t.val % 37 = 36)

set_option maxHeartbeats 4000000 in
/-- The body at a first point of the contracted axis: from its inputs at `x·`, every output it stores ends at the named payload
    of them and the accumulator at its new contents; the output stored only at the last point keeps what it held. -/
theorem body0_A (c : Dev nD) (i : grid0.Coords) (arg1 : Memref sig .tc .vmem S1792x512 .fp8e5m2) (harg1 : arg1.IsWhole) (arg2 : Memref sig .tc .vmem S1792x148 .f32) (harg2 : arg2.IsWhole) (arg3 : Memref sig .tc .vmem S1792x48 .fp8e4m3) (harg3 : arg3.IsWhole) (arg4 : Memref sig .tc .vmem S1792x1 .f32) (harg4 : arg4.IsWhole) (arg5 : Memref sig .tc .vmem S48x512 .bf16) (harg5 : arg5.IsWhole) (arg6 : Memref sig .tc .vmem S1792x512 .bf16) (harg6 : arg6.IsWhole) (arg7 : Memref sig .tc .vmem S48x512 .f32) (harg7 : arg7.IsWhole) (arg8 : Memref sig .tc .vmem S1792x48 .bf16) (harg8 : arg8.IsWhole) (arg9 : Memref sig .tc .vmem S1792x48 .f32) (harg9 : arg9.IsWhole)
    (hc0 : cond0_0 i) (hc1 : ¬ cond0_1 i) (hc2 : ¬ cond0_2 i)
    (x1 : Vec F S1792x512 .fp8e5m2) (x2 : Vec F S1792x148 .f32) (x3 : Vec F S1792x48 .fp8e4m3) (x4 : Vec F S1792x1 .f32) (x5 : Vec F S48x512 .bf16) (xi : Vec F S1792x48 .bf16) (E : Set ℕ) (Q : PUnit → sProp 𝕄) :
    iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ (∃ d, owns (c : Thread nD τ) arg6 fullShare d)
          ∗ (∃ d, owns (c : Thread nD τ) arg7 fullShare d)
          ∗ owns (c : Thread nD τ) arg8 fullShare xi
          ∗ (∃ d, owns (c : Thread nD τ) arg9 fullShare d)
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare (k0_pay6 i x2 x1)
          ∗ owns (c : Thread nD τ) arg7 fullShare (k0_pay1 (k0_pay6 i x2 x1) x3 x4)
          ∗ owns (c : Thread nD τ) arg8 fullShare xi
          ∗ owns (c : Thread nD τ) arg9 fullShare (k0_pay3 (k0_pay6 i x2 x1) x5)) -∗ Q ⟨⟩))
    ⊢ wp frame (wpE (defs₀ (F := F)) Variants.none c none) E (cc0_dequant i arg1 harg1 arg2 harg2 arg3 harg3 arg4 harg4 arg5 harg5 arg6 harg6 arg7 harg7 arg8 harg8 arg9 harg9) Q := by
  simp only [cc0_dequant_eq_skeleton]; unfold cc0_dequant_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; rw [View.read_writes_eq_canon _ _ _ (fun y => ⟨_, List.mem_cons_self, View.mem_set_unit_zero hz0 inb_S1792x512_S1792x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H7]
  · iexists _; isplitr
    swap; · iexact H7
    ipureintro; rw [View.read_writes_eq_canon _ _ _ (fun y => ⟨_, List.mem_cons_self, View.mem_set_unit_zero hz0 inb_S48x512_S48x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H8]
  · iexists _; isplitr; · ipureintro; exact harg8.read_unread _
    iexact H8
  iexists _; isplitr
  swap; · iexact H9
  ipureintro; rw [View.read_writes_eq_canon _ _ _ (fun y => ⟨_, List.mem_cons_self, View.mem_set_unit_zero hz0 inb_S1792x48_S1792x48_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]

set_option maxHeartbeats 4000000 in
/-- The body at a middle point of the contracted axis: from its inputs at `x·`, every output it stores ends at the named payload
    of them and the accumulator at its new contents; the output stored only at the last point keeps what it held. -/
theorem body0_B (c : Dev nD) (i : grid0.Coords) (arg1 : Memref sig .tc .vmem S1792x512 .fp8e5m2) (harg1 : arg1.IsWhole) (arg2 : Memref sig .tc .vmem S1792x148 .f32) (harg2 : arg2.IsWhole) (arg3 : Memref sig .tc .vmem S1792x48 .fp8e4m3) (harg3 : arg3.IsWhole) (arg4 : Memref sig .tc .vmem S1792x1 .f32) (harg4 : arg4.IsWhole) (arg5 : Memref sig .tc .vmem S48x512 .bf16) (harg5 : arg5.IsWhole) (arg6 : Memref sig .tc .vmem S1792x512 .bf16) (harg6 : arg6.IsWhole) (arg7 : Memref sig .tc .vmem S48x512 .f32) (harg7 : arg7.IsWhole) (arg8 : Memref sig .tc .vmem S1792x48 .bf16) (harg8 : arg8.IsWhole) (arg9 : Memref sig .tc .vmem S1792x48 .f32) (harg9 : arg9.IsWhole)
    (hc0 : ¬ cond0_0 i) (hc1 : cond0_1 i) (hc2 : ¬ cond0_2 i)
    (x1 : Vec F S1792x512 .fp8e5m2) (x2 : Vec F S1792x148 .f32) (x3 : Vec F S1792x48 .fp8e4m3) (x4 : Vec F S1792x1 .f32) (x5 : Vec F S48x512 .bf16) (xi : Vec F S1792x48 .bf16) (xs : Vec F S1792x48 .f32) (E : Set ℕ) (Q : PUnit → sProp 𝕄) :
    iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ (∃ d, owns (c : Thread nD τ) arg6 fullShare d)
          ∗ (∃ d, owns (c : Thread nD τ) arg7 fullShare d)
          ∗ owns (c : Thread nD τ) arg8 fullShare xi
          ∗ owns (c : Thread nD τ) arg9 fullShare xs
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare (k0_pay6 i x2 x1)
          ∗ owns (c : Thread nD τ) arg7 fullShare (k0_pay1 (k0_pay6 i x2 x1) x3 x4)
          ∗ owns (c : Thread nD τ) arg8 fullShare xi
          ∗ owns (c : Thread nD τ) arg9 fullShare (k0_pay4 (k0_pay6 i x2 x1) x5 xs)) -∗ Q ⟨⟩))
    ⊢ wp frame (wpE (defs₀ (F := F)) Variants.none c none) E (cc0_dequant i arg1 harg1 arg2 harg2 arg3 harg3 arg4 harg4 arg5 harg5 arg6 harg6 arg7 harg7 arg8 harg8 arg9 harg9) Q := by
  simp only [cc0_dequant_eq_skeleton]; unfold cc0_dequant_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; rw [View.read_writes_eq_canon _ _ _ (fun y => ⟨_, List.mem_cons_self, View.mem_set_unit_zero hz0 inb_S1792x512_S1792x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H7]
  · iexists _; isplitr
    swap; · iexact H7
    ipureintro; rw [View.read_writes_eq_canon _ _ _ (fun y => ⟨_, List.mem_cons_self, View.mem_set_unit_zero hz0 inb_S48x512_S48x512_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]
  isplitl [H8]
  · iexists _; isplitr; · ipureintro; exact harg8.read_unread _
    iexact H8
  iexists _; isplitr
  swap; · iexact H9
  ipureintro; rw [View.read_writes_eq_canon _ _ _ (fun y => ⟨_, List.mem_cons_self, View.mem_set_unit_zero hz0 inb_S1792x48_S1792x48_0_0 y⟩), View.canon_cons_unit_zero hz0]; (try rw [View.readCov_full]); (repeat rw [View.readAt_full]); simp only [harg1.read_unread, harg2.read_unread, harg3.read_unread, harg4.read_unread, harg5.read_unread, harg6.read_unread, harg7.read_unread, harg8.read_unread, harg9.read_unread]

set_option maxHeartbeats 4000000 in
/-- The body at a last point of the contracted axis: from its inputs at `x·`, every output it stores ends at the named payload
    of them and the accumulator at its new contents; the final output is stored from the new accumulator. -/
theorem body0_C (c : Dev nD) (i : grid0.Coords) (arg1 : Memref sig .tc .vmem S1792x512 .fp8e5m2) (harg1 : arg1.IsWhole) (arg2 : Memref sig .tc .vmem S1792x148 .f32) (harg2 : arg2.IsWhole) (arg3 : Memref sig .tc .vmem S1792x48 .fp8e4m3) (harg3 : arg3.IsWhole) (arg4 : Memref sig .tc .vmem S1792x1 .f32) (harg4 : arg4.IsWhole) (arg5 : Memref sig .tc .vmem S48x512 .bf16) (harg5 : arg5.IsWhole) (arg6 : Memref sig .tc .vmem S1792x512 .bf16) (harg6 : arg6.IsWhole) (arg7 : Memref sig .tc .vmem S48x512 .f32) (harg7 : arg7.IsWhole) (arg8 : Memref sig .tc .vmem S1792x48 .bf16) (harg8 : arg8.IsWhole) (arg9 : Memref sig .tc .vmem S1792x48 .f32) (harg9 : arg9.IsWhole)
    (hc0 : ¬ cond0_0 i) (hc1 : cond0_1 i) (hc2 : cond0_2 i)
    (x1 : Vec F S1792x512 .fp8e5m2) (x2 : Vec F S1792x148 .f32) (x3 : Vec F S1792x48 .fp8e4m3) (x4 : Vec F S1792x1 .f32) (x5 : Vec F S48x512 .bf16) (xs : Vec F S1792x48 .f32) (E : Set ℕ) (Q : PUnit → sProp 𝕄) :
    iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ (∃ d, owns (c : Thread nD τ) arg6 fullShare d)
          ∗ (∃ d, owns (c : Thread nD τ) arg7 fullShare d)
          ∗ (∃ d, owns (c : Thread nD τ) arg8 fullShare d)
          ∗ owns (c : Thread nD τ) arg9 fullShare xs
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare (k0_pay6 i x2 x1)
          ∗ owns (c : Thread nD τ) arg7 fullShare (k0_pay1 (k0_pay6 i x2 x1) x3 x4)
          ∗ owns (c : Thread nD τ) arg8 fullShare (k0_pay5 (k0_pay4 (k0_pay6 i x2 x1) x5 xs))
          ∗ owns (c : Thread nD τ) arg9 fullShare (k0_pay4 (k0_pay6 i x2 x1) x5 xs)) -∗ Q ⟨⟩))
    ⊢ wp frame (wpE (defs₀ (F := F)) Variants.none c none) E (cc0_dequant i arg1 harg1 arg2 harg2 arg3 harg3 arg4 harg4 arg5 harg5 arg6 harg6 arg7 harg7 arg8 harg8 arg9 harg9) Q := by
  simp only [cc0_dequant_eq_skeleton]; unfold cc0_dequant_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; (try unfold body0_C.sl.v66); (try unfold body0_C.sl.H9_1); rw [View.read_writes_eq_canon _ _ _ (fun y => ⟨_, List.mem_cons_self, View.mem_set_unit_zero hz0 inb_S1792x512_S1792x512_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]
  isplitl [H7]
  · iexists _; isplitr
    swap; · iexact H7
    ipureintro; (try unfold body0_C.sl.v66); (try unfold body0_C.sl.H9_1); rw [View.read_writes_eq_canon _ _ _ (fun y => ⟨_, List.mem_cons_self, View.mem_set_unit_zero hz0 inb_S48x512_S48x512_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]
  isplitl [H8]
  · iexists _; isplitr
    swap; · iexact H8
    ipureintro; (try unfold body0_C.sl.v66); (try unfold body0_C.sl.H9_1); rw [View.read_writes_eq_canon _ _ _ (fun y => ⟨_, List.mem_cons_self, View.mem_set_unit_zero hz0 inb_S1792x48_S1792x48_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]
  iexists _; isplitr
  swap; · iexact H9
  ipureintro; (try unfold body0_C.sl.v66); (try unfold body0_C.sl.H9_1); rw [View.read_writes_eq_canon _ _ _ (fun y => ⟨_, List.mem_cons_self, View.mem_set_unit_zero hz0 inb_S1792x48_S1792x48_0_0 y⟩), View.canon_cons_unit_zero hz0]; (try unfold body0_C.sl.v66); (try unfold body0_C.sl.H9_1); (try rw [View.readCov_full]); (repeat rw [View.readAt_full]); simp only [harg1.read_unread, harg2.read_unread, harg3.read_unread, harg4.read_unread, harg5.read_unread, harg6.read_unread, harg7.read_unread, harg8.read_unread, harg9.read_unread]

end Cert.KernelIdeal.Hand

end
-- ==== Proof.KernelIdeal.Data0.lean ====
module

public import proofs.«01_k».proof.Proof.KernelIdeal.Body0
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # The first kernel over its grid

The proof data of its pipeline at any contents `V` its arrays are entered at: what each window holds after every point, the
accumulator carried from point to point, and the obligation that the body does exactly that. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data entered at `V` that leave it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, for any proof data entered at `V` that leave it there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, for any proof data entered at `V` that leave it there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, for any proof data entered at `V` that leave it there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, for any proof data entered at `V` that leave it there. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The block of rescaled gradients the body stores at point `t`. -/
def dyb0 (c : Dev nD) (t : Fin cfg0.N) : Vec F S1792x512 .bf16 := k0_pay6 (grid0.coords t) (iblk0 V c 1 t) (iblk0 V c 0 t)
/-- The block of the second factor's gradient the body stores at point `t`. -/
def db0 (c : Dev nD) (t : Fin cfg0.N) : Vec F S48x512 .f32 := k0_pay1 (dyb0 V c t) (iblk0 V c 2 t) (iblk0 V c 3 t)

/-- The accumulator after point `n`: restarted at the first point of the contracted axis, else added to. -/
def acc0 (c : Dev nD) : (n : ℕ) → n < cfg0.N → Vec F S1792x48 .f32
  | 0, h => k0_pay3 (dyb0 V c ⟨0, h⟩) (iblk0 V c 4 ⟨0, h⟩)
  | n + 1, h => if (n + 1) % 37 = 0 then k0_pay3 (dyb0 V c ⟨n + 1, h⟩) (iblk0 V c 4 ⟨n + 1, h⟩)
      else k0_pay4 (dyb0 V c ⟨n + 1, h⟩) (iblk0 V c 4 ⟨n + 1, h⟩) (acc0 c n (Nat.lt_of_succ_lt h))

theorem acc0_first (c : Dev nD) (t : Fin cfg0.N) (h : t.val % 37 = 0) :
    acc0 V c t.val t.isLt = k0_pay3 (dyb0 V c t) (iblk0 V c 4 t) := by
  obtain ⟨n, hn⟩ := t
  cases n with
  | zero => rfl
  | succ n => exact if_pos h

theorem acc0_next (c : Dev nD) (t : Fin cfg0.N) (h : ¬ t.val % 37 = 0) :
    acc0 V c t.val t.isLt = k0_pay4 (dyb0 V c t) (iblk0 V c 4 t) (acc0 V c (t.val - 1) (Nat.lt_of_le_of_lt (Nat.sub_le _ _) t.isLt)) := by
  obtain ⟨n, hn⟩ := t
  cases n with
  | zero => exact absurd (Nat.zero_mod _) h
  | succ n => exact if_neg h

/-- The accumulator's buffer. -/
abbrev scM0 : Memref sig .tc .vmem S1792x48 .f32 := Memref.whole cc0_scratch0

/-- The scoped buffers that are neither a staging buffer of this pipeline nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region's kit hands the body besides its windows: the accumulator at some contents, the other scoped buffers and
    the generator register. -/
theorem PhiA0_eq (c : Dev nD) :
    (Pipeline.ΦA spec0 c : sProp 𝕄) = iprop(iprop((∃ d, owns (c : Thread nD τ) scM0 fullShare d) ∗ rest0 (F := F) c) ∗ (∃ r, prngReg c r)) := by
  unfold Pipeline.ΦA
  rw [Pipeline.scopedRest_eq_of_list spec0 c [cc0_scratch0, cc1_stg0_0, cc1_stg0_1, cc1_stg1_0, cc1_stg1_1, cc1_stg2_0, cc1_stg2_1, cc1_stg3_0, cc1_stg4_0, cc1_stg4_1, cc1_stg5_0, cc1_stg5_1, cc1_scratch0] (by decide) (by decide)]
  simp only [scM0, owns_whole]; rfl

/-- The invariant before position `n`: before the first point the kit's own; afterwards the accumulator at what the point before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Phi0_zero (c : Dev nD) (n : ℕ) (h : n ≤ cfg0.N) (hz0 : n = 0) : Phi0 V c n h = Pipeline.ΦA spec0 c := by
  subst hz0; rfl
theorem Phi0_succ (c : Dev nD) (n : ℕ) (hn : n < cfg0.N) :
    Phi0 V c (n + 1) hn = iprop(iprop(owns (c : Thread nD τ) scM0 fullShare (acc0 V c n hn) ∗ rest0 (F := F) c) ∗ (∃ r, prngReg c r)) := rfl
theorem Phi0_pos (c : Dev nD) (n : ℕ) (h : n ≤ cfg0.N) (hz0 : n ≠ 0) :
    Phi0 V c n h = iprop(iprop(owns (c : Thread nD τ) scM0 fullShare (acc0 V c (n - 1) (by omega)) ∗ rest0 (F := F) c) ∗ (∃ r, prngReg c r)) := by
  cases n with
  | zero => exact absurd rfl hz0
  | succ n => rfl

/-- The pipeline's proof data: arrays as the region finds them, every input's buffer at its block, every output's at what the
    body stores, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => dyb0 V c t
    | ⟨6, _⟩ => db0 V c t
    | ⟨7, _⟩ => k0_pay5 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = dyb0 V c t := by dsimp only [dat0]
theorem after0_6 (c : Dev nD) (t : Fin cfg0.N) : (dat0 V c).after 6 t = db0 V c t := by dsimp only [dat0]
theorem after0_7 (c : Dev nD) (t : Fin cfg0.N) : (dat0 V c).after 7 t = k0_pay5 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl
/-- The output stored only at the last point of the contracted axis is idle, and not written back, before it. -/
theorem idle0 : ∀ t : Fin cfg0.N, ¬ t.val % 37 = 36 → cfg0.idle 7 (grid0.coords t) = true :=
  (by decide +kernel : ∀ t : Fin grid0.N, ¬ t.val % 37 = 36 → cfg0.idle 7 (grid0.coords t) = true)
theorem noFlush0 : ∀ t : Fin cfg0.N, ¬ t.val % 37 = 36 → (cfg0.win 7).flush t = false :=
  (by decide +kernel : ∀ t : Fin grid0.N, ¬ t.val % 37 = 36 → (cfg0.win 7).flush t = false)
theorem live0_7 : ∀ t : Fin cfg0.N, t.val % 37 = 36 → cfg0.idle 7 (grid0.coords t) = false :=
  (by decide +kernel : ∀ t : Fin grid0.N, t.val % 37 = 36 → cfg0.idle 7 (grid0.coords t) = false)

abbrev ms0_0 (t : Fin cfg0.N) : Memref sig .tc .vmem S1792x512 .fp8e5m2 := win0_0.stage (cfg0.slots t 0)
abbrev ms0_1 (t : Fin cfg0.N) : Memref sig .tc .vmem S1792x148 .f32 := win0_1.stage (cfg0.slots t 1)
abbrev ms0_2 (t : Fin cfg0.N) : Memref sig .tc .vmem S1792x48 .fp8e4m3 := win0_2.stage (cfg0.slots t 2)
abbrev ms0_3 (t : Fin cfg0.N) : Memref sig .tc .vmem S1792x1 .f32 := win0_3.stage (cfg0.slots t 3)
abbrev ms0_4 (t : Fin cfg0.N) : Memref sig .tc .vmem S48x512 .bf16 := win0_4.stage (cfg0.slots t 4)
abbrev ms0_5 (t : Fin cfg0.N) : Memref sig .tc .vmem S1792x512 .bf16 := win0_5.stage (cfg0.slots t 5)
abbrev ms0_6 (t : Fin cfg0.N) : Memref sig .tc .vmem S48x512 .f32 := win0_6.stage (cfg0.slots t 6)
abbrev ms0_7 (t : Fin cfg0.N) : Memref sig .tc .vmem S1792x48 .bf16 := win0_7.stage (cfg0.slots t 7)

/-- What the body is called with at point `t`, the windows one by one, -/
def bodyPre0 (c : Dev nD) (t : Fin cfg0.N) : sProp 𝕄 :=
  iprop((dat0 V c).Φ t.castSucc
    ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))
/-- and what it returns. -/
def bodyPost0 (c : Dev nD) (t : Fin cfg0.N) : sProp 𝕄 :=
  iprop((dat0 V c).Φ t.succ
    ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 9600000 in
/-- The body at any point does what the proof data say. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Phi0 V c (t.val + 1) t.isLt from rfl, Phi0_succ]
  have hN : t.val < 37 := lt_of_lt_of_eq t.isLt (show cfg0.N = 37 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  rw [show (dat0 V c).leavesExact 6 t = owns (c : Thread nD τ) (ms0_6 t) fullShare ((dat0 V c).after 6 t) from by
    unfold Dat.leavesExact; rw [live0_6 t], after0_6]
  by_cases h0 : t.val % 37 = 0
  · rw [Dat.leavesExact_idle (dat0 V c) 7 t (idle0 t (by omega)) (noFlush0 t (by omega))]
    rw [acc0_first V c t h0]
    by_cases hz0 : t.val = 0
    · rw [Phi0_castSucc V c t, Phi0_zero V c _ _ hz0, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_A c (grid0.coords t) _ _ _ _ _ _ _ _ _ _ _ _ _ _ _ _ _ _ ((hcond0_0 t).mpr h0) (fun h => absurd ((hcond0_1 t).mp h) (by omega)) (fun h => absurd ((hcond0_2 t).mp h) (by omega)) (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · exfalso; omega
  · rw [Phi0_castSucc V c t, Phi0_pos V c _ _ (by omega), acc0_next V c t h0]
    by_cases h2 : t.val % 37 = 36
    · rw [show (dat0 V c).leavesExact 7 t = owns (c : Thread nD τ) (ms0_7 t) fullShare ((dat0 V c).after 7 t) from by
        unfold Dat.leavesExact; rw [live0_7 t h2], after0_7, acc0_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_C c (grid0.coords t) _ _ _ _ _ _ _ _ _ _ _ _ _ _ _ _ _ _ (fun h => absurd ((hcond0_0 t).mp h) h0) ((hcond0_1 t).mpr (by omega)) ((hcond0_2 t).mpr h2) (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat0 V c) 7 t (idle0 t h2) (noFlush0 t h2)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_B c (grid0.coords t) _ _ _ _ _ _ _ _ _ _ _ _ _ _ _ _ _ _ (fun h => absurd ((hcond0_0 t).mp h) h0) ((hcond0_1 t).mpr (by omega)) (fun h => absurd ((hcond0_2 t).mp h) h2) (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body table's row at point `t`'s slots is the body as called. -/
theorem defs₀_row0 (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The invariant after the last point forgets the accumulator's contents. -/
theorem Phi_out0 (c : Dev nD) : (dat0 V c).Φ (Fin.last cfg0.N) ⊢ Pipeline.ΦA spec0 c := by
  rw [show (dat0 V c).Φ (Fin.last cfg0.N) = Phi0 V c cfg0.N (Nat.le_refl _) from rfl, Phi0_pos V c _ _ (by rw [show cfg0.N = 37 from N_0]; omega), PhiA0_eq]
  iintro ⟨⟨HS, HR⟩, Hg⟩
  isplitl [HS HR]
  · isplitl [HS]
    · iexists _; iexact HS
    iexact HR
  iexact Hg

end Cert.KernelIdeal.Hand

end
-- ==== Proof.KernelIdeal.Body1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # One grid point of the second kernel

The branch conditions in closed form, and what one run of the body leaves in each buffer: named payloads of the inputs. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store are zero. -/
theorem hz1 : (![0, 0] : Fin 2 → Nat) = fun _ => 0 := by funext a; fin_cases a <;> rfl

/-- The condition of the body's first branch: the first point of the contracted axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (fun t => by
    have ht : t.val < 28 := Nat.lt_of_lt_of_eq t.isLt N_1
    have e0 : (grid1.coords t 0).val = t.val / 4 % 7 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-- The condition of the body's second branch: any later point of the contracted axis. -/
abbrev cond1_1 (i : grid1.Coords) : Prop := (Scalar.cmpi .ne (Scalar.extui (Scalar.cmpi .sgt (BitVec.ofNat 32 (i 1).val) 0#32)) 0#32) = 1#1
theorem hcond1_1 : ∀ t : Fin cfg1.N, cond1_1 (grid1.coords t) ↔ 1 ≤ t.val % 4 :=
  (by decide +kernel : ∀ t : Fin grid1.N, cond1_1 (grid1.coords t) ↔ 1 ≤ t.val % 4)

/-- The condition of the body's third branch: the last point of the contracted axis. -/
abbrev cond1_2 (i : grid1.Coords) : Prop := k1_cond3 i = 1#1
theorem hcond1_2 : ∀ t : Fin cfg1.N, cond1_2 (grid1.coords t) ↔ t.val % 4 = 3 :=
  (fun t => by
    have ht : t.val < 28 := Nat.lt_of_lt_of_eq t.isLt N_1
    have e0 : (grid1.coords t 0).val = t.val / 4 % 7 := Pipeline.Grid.coords_val t 0 (by decide) rfl
    have e1 : (grid1.coords t 1).val = t.val / 1 % 4 := Pipeline.Grid.coords_val t 1 (by decide) rfl
    simp only [cond1_2, k1_cond3, e0, e1]
    word_cmp
   : ∀ t : Fin grid1.N, cond1_2 (grid1.coords t) ↔ t.val % 4 = 3)

set_option maxHeartbeats 4000000 in
/-- The body at a first point of the contracted axis: from its inputs at `x·`, every output it stores ends at the named payload
    of them and the accumulator at its new contents; the output stored only at the last point keeps what it held. -/
theorem body1_A (c : Dev nD) (i : grid1.Coords) (arg2 : Memref sig .tc .vmem S1792x4736 .bf16) (harg2 : arg2.IsWhole) (arg3 : Memref sig .tc .vmem S512x4736 .fp8e4m3) (harg3 : arg3.IsWhole) (arg4 : Memref sig .tc .vmem S1x512 .f32) (harg4 : arg4.IsWhole) (arg5 : Memref sig .tc .vmem S1792x48 .bf16) (harg5 : arg5.IsWhole) (arg6 : Memref sig .tc .vmem S512x48 .bf16) (harg6 : arg6.IsWhole) (arg7 : Memref sig .tc .vmem S1792x512 .bf16) (harg7 : arg7.IsWhole) (arg8 : Memref sig .tc .vmem S1792x512 .f32) (harg8 : arg8.IsWhole)
    (hc0 : cond1_0 i) (hc1 : ¬ cond1_1 i) (hc2 : ¬ cond1_2 i)
    (x2 : Vec F S1792x4736 .bf16) (x3 : Vec F S512x4736 .fp8e4m3) (x4 : Vec F S1x512 .f32) (x5 : Vec F S1792x48 .bf16) (x6 : Vec F S512x48 .bf16) (xi : Vec F S1792x512 .bf16) (E : Set ℕ) (Q : PUnit → sProp 𝕄) :
    iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ (∃ d, owns (c : Thread nD τ) arg8 fullShare d)
      ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ owns (c : Thread nD τ) arg8 fullShare (k1_pay2 x2 x3)) -∗ Q ⟨⟩))
    ⊢ wp frame (wpE (defs₀ (F := F)) Variants.none c none) E (cc1_dx i arg2 harg2 arg3 harg3 arg4 harg4 arg5 harg5 arg6 harg6 arg7 harg7 arg8 harg8) Q := by
  simp only [cc1_dx_eq_skeleton]; unfold cc1_dx_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro; rw [View.read_writes_eq_canon _ _ _ (fun y => ⟨_, List.mem_cons_self, View.mem_set_unit_zero hz1 inb_S1792x512_S1792x512_0_0 y⟩), View.canon_cons_unit_zero hz1]; (try rw [View.readCov_full]); (repeat rw [View.readAt_full]); simp only [harg2.read_unread, harg3.read_unread, harg4.read_unread, harg5.read_unread, harg6.read_unread, harg7.read_unread, harg8.read_unread]

set_option maxHeartbeats 4000000 in
/-- The body at a middle point of the contracted axis: from its inputs at `x·`, every output it stores ends at the named payload
    of them and the accumulator at its new contents; the output stored only at the last point keeps what it held. -/
theorem body1_B (c : Dev nD) (i : grid1.Coords) (arg2 : Memref sig .tc .vmem S1792x4736 .bf16) (harg2 : arg2.IsWhole) (arg3 : Memref sig .tc .vmem S512x4736 .fp8e4m3) (harg3 : arg3.IsWhole) (arg4 : Memref sig .tc .vmem S1x512 .f32) (harg4 : arg4.IsWhole) (arg5 : Memref sig .tc .vmem S1792x48 .bf16) (harg5 : arg5.IsWhole) (arg6 : Memref sig .tc .vmem S512x48 .bf16) (harg6 : arg6.IsWhole) (arg7 : Memref sig .tc .vmem S1792x512 .bf16) (harg7 : arg7.IsWhole) (arg8 : Memref sig .tc .vmem S1792x512 .f32) (harg8 : arg8.IsWhole)
    (hc0 : ¬ cond1_0 i) (hc1 : cond1_1 i) (hc2 : ¬ cond1_2 i)
    (x2 : Vec F S1792x4736 .bf16) (x3 : Vec F S512x4736 .fp8e4m3) (x4 : Vec F S1x512 .f32) (x5 : Vec F S1792x48 .bf16) (x6 : Vec F S512x48 .bf16) (xi : Vec F S1792x512 .bf16) (xs : Vec F S1792x512 .f32) (E : Set ℕ) (Q : PUnit → sProp 𝕄) :
    iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ owns (c : Thread nD τ) arg8 fullShare xs
      ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare xi
          ∗ owns (c : Thread nD τ) arg8 fullShare (k1_pay3 x2 x3 xs)) -∗ Q ⟨⟩))
    ⊢ wp frame (wpE (defs₀ (F := F)) Variants.none c none) E (cc1_dx i arg2 harg2 arg3 harg3 arg4 harg4 arg5 harg5 arg6 harg6 arg7 harg7 arg8 harg8) Q := by
  simp only [cc1_dx_eq_skeleton]; unfold cc1_dx_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro; rw [View.read_writes_eq_canon _ _ _ (fun y => ⟨_, List.mem_cons_self, View.mem_set_unit_zero hz1 inb_S1792x512_S1792x512_0_0 y⟩), View.canon_cons_unit_zero hz1]; (try rw [View.readCov_full]); (repeat rw [View.readAt_full]); simp only [harg2.read_unread, harg3.read_unread, harg4.read_unread, harg5.read_unread, harg6.read_unread, harg7.read_unread, harg8.read_unread]

set_option maxHeartbeats 4000000 in
/-- The body at a last point of the contracted axis: from its inputs at `x·`, every output it stores ends at the named payload
    of them and the accumulator at its new contents; the final output is stored from the new accumulator. -/
theorem body1_C (c : Dev nD) (i : grid1.Coords) (arg2 : Memref sig .tc .vmem S1792x4736 .bf16) (harg2 : arg2.IsWhole) (arg3 : Memref sig .tc .vmem S512x4736 .fp8e4m3) (harg3 : arg3.IsWhole) (arg4 : Memref sig .tc .vmem S1x512 .f32) (harg4 : arg4.IsWhole) (arg5 : Memref sig .tc .vmem S1792x48 .bf16) (harg5 : arg5.IsWhole) (arg6 : Memref sig .tc .vmem S512x48 .bf16) (harg6 : arg6.IsWhole) (arg7 : Memref sig .tc .vmem S1792x512 .bf16) (harg7 : arg7.IsWhole) (arg8 : Memref sig .tc .vmem S1792x512 .f32) (harg8 : arg8.IsWhole)
    (hc0 : ¬ cond1_0 i) (hc1 : cond1_1 i) (hc2 : cond1_2 i)
    (x2 : Vec F S1792x4736 .bf16) (x3 : Vec F S512x4736 .fp8e4m3) (x4 : Vec F S1x512 .f32) (x5 : Vec F S1792x48 .bf16) (x6 : Vec F S512x48 .bf16) (xs : Vec F S1792x512 .f32) (E : Set ℕ) (Q : PUnit → sProp 𝕄) :
    iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ (∃ d, owns (c : Thread nD τ) arg7 fullShare d)
          ∗ owns (c : Thread nD τ) arg8 fullShare xs
      ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare (k1_pay4 x5 x6 (k1_pay3 x2 x3 xs) x4)
          ∗ owns (c : Thread nD τ) arg8 fullShare (k1_pay3 x2 x3 xs)) -∗ Q ⟨⟩))
    ⊢ wp frame (wpE (defs₀ (F := F)) Variants.none c none) E (cc1_dx i arg2 harg2 arg3 harg3 arg4 harg4 arg5 harg5 arg6 harg6 arg7 harg7 arg8 harg8) Q := by
  simp only [cc1_dx_eq_skeleton]; unfold cc1_dx_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; (try unfold body1_C.sl.v18); (try unfold body1_C.sl.H8_1); rw [View.read_writes_eq_canon _ _ _ (fun y => ⟨_, List.mem_cons_self, View.mem_set_unit_zero hz1 inb_S1792x512_S1792x512_0_0 y⟩), View.canon_cons_unit_zero hz1]; (try unfold body1_C.sl.v18); (try unfold body1_C.sl.H8_1); (try rw [View.readCov_full]); (repeat rw [View.readAt_full]); simp only [harg2.read_unread, harg3.read_unread, harg4.read_unread, harg5.read_unread, harg6.read_unread, harg7.read_unread, harg8.read_unread]
  iexists _; isplitr
  swap; · iexact H8
  ipureintro; (try unfold body1_C.sl.v18); (try unfold body1_C.sl.H8_1); rw [View.read_writes_eq_canon _ _ _ (fun y => ⟨_, List.mem_cons_self, View.mem_set_unit_zero hz1 inb_S1792x512_S1792x512_0_0 y⟩), View.canon_cons_unit_zero hz1]; (try unfold body1_C.sl.v18); (try unfold body1_C.sl.H8_1); (try rw [View.readCov_full]); (repeat rw [View.readAt_full]); simp only [harg2.read_unread, harg3.read_unread, harg4.read_unread, harg5.read_unread, harg6.read_unread, harg7.read_unread, harg8.read_unread]

end Cert.KernelIdeal.Hand

end
-- ==== Proof.KernelIdeal.Data1.lean ====
module

public import proofs.«01_k».proof.Proof.KernelIdeal.Body1
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # The second kernel over its grid

The proof data of its pipeline at any contents `V` its arrays are entered at: what each window holds after every point, the
accumulator carried from point to point, and the obligation that the body does exactly that. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data entered at `V` that leave it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, for any proof data entered at `V` that leave it there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, for any proof data entered at `V` that leave it there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, for any proof data entered at `V` that leave it there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, for any proof data entered at `V` that leave it there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The accumulator after point `n`: restarted at the first point of the contracted axis, else added to. -/
def acc1 (c : Dev nD) : (n : ℕ) → n < cfg1.N → Vec F S1792x512 .f32
  | 0, h => k1_pay2 (iblk1 V c 0 ⟨0, h⟩) (iblk1 V c 1 ⟨0, h⟩)
  | n + 1, h => if (n + 1) % 4 = 0 then k1_pay2 (iblk1 V c 0 ⟨n + 1, h⟩) (iblk1 V c 1 ⟨n + 1, h⟩)
      else k1_pay3 (iblk1 V c 0 ⟨n + 1, h⟩) (iblk1 V c 1 ⟨n + 1, h⟩) (acc1 c n (Nat.lt_of_succ_lt h))

theorem acc1_first (c : Dev nD) (t : Fin cfg1.N) (h : t.val % 4 = 0) :
    acc1 V c t.val t.isLt = k1_pay2 (iblk1 V c 0 t) (iblk1 V c 1 t) := by
  obtain ⟨n, hn⟩ := t
  cases n with
  | zero => rfl
  | succ n => exact if_pos h

theorem acc1_next (c : Dev nD) (t : Fin cfg1.N) (h : ¬ t.val % 4 = 0) :
    acc1 V c t.val t.isLt = k1_pay3 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator's buffer. -/
abbrev scM1 : Memref sig .tc .vmem S1792x512 .f32 := Memref.whole cc1_scratch0

/-- The scoped buffers that are neither a staging buffer of this pipeline nor its accumulator, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f))

/-- What the region's kit hands the body besides its windows: the accumulator at some contents, the other scoped buffers and
    the generator register. -/
theorem PhiA1_eq (c : Dev nD) :
    (Pipeline.ΦA spec1 c : sProp 𝕄) = iprop(iprop((∃ d, owns (c : Thread nD τ) scM1 fullShare d) ∗ rest1 (F := F) c) ∗ (∃ r, prngReg c r)) := by
  unfold Pipeline.ΦA
  rw [Pipeline.scopedRest_eq_of_list spec1 c [cc1_scratch0, cc0_stg0_0, cc0_stg0_1, cc0_stg1_0, cc0_stg2_0, cc0_stg3_0, cc0_stg4_0, cc0_stg4_1, cc0_stg5_0, cc0_stg5_1, cc0_stg6_0, cc0_stg6_1, cc0_stg7_0, cc0_scratch0] (by decide) (by decide)]
  simp only [scM1, owns_whole]; rfl

/-- The invariant before position `n`: before the first point the kit's own; afterwards the accumulator at what the point before left. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem Phi1_zero (c : Dev nD) (n : ℕ) (h : n ≤ cfg1.N) (hz1 : n = 0) : Phi1 V c n h = Pipeline.ΦA spec1 c := by
  subst hz1; rfl
theorem Phi1_succ (c : Dev nD) (n : ℕ) (hn : n < cfg1.N) :
    Phi1 V c (n + 1) hn = iprop(iprop(owns (c : Thread nD τ) scM1 fullShare (acc1 V c n hn) ∗ rest1 (F := F) c) ∗ (∃ r, prngReg c r)) := rfl
theorem Phi1_pos (c : Dev nD) (n : ℕ) (h : n ≤ cfg1.N) (hz1 : n ≠ 0) :
    Phi1 V c n h = iprop(iprop(owns (c : Thread nD τ) scM1 fullShare (acc1 V c (n - 1) (by omega)) ∗ rest1 (F := F) c) ∗ (∃ r, prngReg c r)) := by
  cases n with
  | zero => exact absurd rfl hz1
  | succ n => rfl

/-- The pipeline's proof data: arrays as the region finds them, every input's buffer at its block, every output's at what the
    body stores, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay4 (iblk1 V c 3 t) (iblk1 V c 4 t) (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay4 (iblk1 V c 3 t) (iblk1 V c 4 t) (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
/-- The output stored only at the last point of the contracted axis is idle, and not written back, before it. -/
theorem idle1 : ∀ t : Fin cfg1.N, ¬ t.val % 4 = 3 → cfg1.idle 5 (grid1.coords t) = true :=
  (by decide +kernel : ∀ t : Fin grid1.N, ¬ t.val % 4 = 3 → cfg1.idle 5 (grid1.coords t) = true)
theorem noFlush1 : ∀ t : Fin cfg1.N, ¬ t.val % 4 = 3 → (cfg1.win 5).flush t = false :=
  (by decide +kernel : ∀ t : Fin grid1.N, ¬ t.val % 4 = 3 → (cfg1.win 5).flush t = false)
theorem live1_5 : ∀ t : Fin cfg1.N, t.val % 4 = 3 → cfg1.idle 5 (grid1.coords t) = false :=
  (by decide +kernel : ∀ t : Fin grid1.N, t.val % 4 = 3 → cfg1.idle 5 (grid1.coords t) = false)

abbrev ms1_0 (t : Fin cfg1.N) : Memref sig .tc .vmem S1792x4736 .bf16 := win1_0.stage (cfg1.slots t 0)
abbrev ms1_1 (t : Fin cfg1.N) : Memref sig .tc .vmem S512x4736 .fp8e4m3 := win1_1.stage (cfg1.slots t 1)
abbrev ms1_2 (t : Fin cfg1.N) : Memref sig .tc .vmem S1x512 .f32 := win1_2.stage (cfg1.slots t 2)
abbrev ms1_3 (t : Fin cfg1.N) : Memref sig .tc .vmem S1792x48 .bf16 := win1_3.stage (cfg1.slots t 3)
abbrev ms1_4 (t : Fin cfg1.N) : Memref sig .tc .vmem S512x48 .bf16 := win1_4.stage (cfg1.slots t 4)
abbrev ms1_5 (t : Fin cfg1.N) : Memref sig .tc .vmem S1792x512 .bf16 := win1_5.stage (cfg1.slots t 5)

/-- What the body is called with at point `t`, the windows one by one, -/
def bodyPre1 (c : Dev nD) (t : Fin cfg1.N) : sProp 𝕄 :=
  iprop((dat1 V c).Φ t.castSucc
    ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- and what it returns. -/
def bodyPost1 (c : Dev nD) (t : Fin cfg1.N) : sProp 𝕄 :=
  iprop((dat1 V c).Φ t.succ
    ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 9600000 in
/-- The body at any point does what the proof data say. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  have hN : t.val < 28 := lt_of_lt_of_eq t.isLt (show cfg1.N = 28 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  by_cases h0 : t.val % 4 = 0
  · rw [Dat.leavesExact_idle (dat1 V c) 5 t (idle1 t (by omega)) (noFlush1 t (by omega))]
    rw [acc1_first V c t h0]
    by_cases hz1 : t.val = 0
    · rw [Phi1_castSucc V c t, Phi1_zero V c _ _ hz1, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_A c (grid1.coords t) _ _ _ _ _ _ _ _ _ _ _ _ _ _ ((hcond1_0 t).mpr h0) (fun h => absurd ((hcond1_1 t).mp h) (by omega)) (fun h => absurd ((hcond1_2 t).mp h) (by omega)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi1_castSucc V c t, Phi1_pos V c _ _ hz1]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_A c (grid1.coords t) _ _ _ _ _ _ _ _ _ _ _ _ _ _ ((hcond1_0 t).mpr h0) (fun h => absurd ((hcond1_1 t).mp h) (by omega)) (fun h => absurd ((hcond1_2 t).mp h) (by omega)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · rw [Phi1_castSucc V c t, Phi1_pos V c _ _ (by omega), acc1_next V c t h0]
    by_cases h2 : t.val % 4 = 3
    · rw [show (dat1 V c).leavesExact 5 t = owns (c : Thread nD τ) (ms1_5 t) fullShare ((dat1 V c).after 5 t) from by
        unfold Dat.leavesExact; rw [live1_5 t h2], after1_5, acc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_C c (grid1.coords t) _ _ _ _ _ _ _ _ _ _ _ _ _ _ (fun h => absurd ((hcond1_0 t).mp h) h0) ((hcond1_1 t).mpr (by omega)) ((hcond1_2 t).mpr h2) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idle1 t h2) (noFlush1 t h2)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_B c (grid1.coords t) _ _ _ _ _ _ _ _ _ _ _ _ _ _ (fun h => absurd ((hcond1_0 t).mp h) h0) ((hcond1_1 t).mpr (by omega)) (fun h => absurd ((hcond1_2 t).mp h) h2) (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body as called. -/
theorem defs₀_row1 (t : Fin cfg1.N) :
    defs₀ (F := F) .tc cfg1.body (cfg1.bodyArgs t (cfg1.slots t)) = bodyAt1 t := by
  unfold defs₀; rw [Defs.onTc_tc]

/-- The pipeline library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The invariant after the last point forgets the accumulator's contents. -/
theorem Phi_out1 (c : Dev nD) : (dat1 V c).Φ (Fin.last cfg1.N) ⊢ Pipeline.ΦA spec1 c := by
  rw [show (dat1 V c).Φ (Fin.last cfg1.N) = Phi1 V c cfg1.N (Nat.le_refl _) from rfl, Phi1_pos V c _ _ (by rw [show cfg1.N = 28 from N_1]; omega), PhiA1_eq]
  iintro ⟨⟨HS, HR⟩, Hg⟩
  isplitl [HS HR]
  · isplitl [HS]
    · iexists _; iexact HS
    iexact HR
  iexact Hg

end Cert.KernelIdeal.Hand

end
-- ==== Proof.KernelIdeal.Run.lean ====
module

public import proofs.«01_k».proof.Proof.KernelIdeal.Data0
public import proofs.«01_k».proof.Proof.KernelIdeal.Data1
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

/-! # The whole program's run

The buffers' contents at every boundary of the program (host stretch, first kernel, host stretch, second kernel, host
stretch), the two kernels as segments, and the run: every final state holds exactly the last boundary's contents. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7]
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references. -/
abbrev V1 : (c : Dev nD) → (b : Ref sig .tc) → Buf (Elt F) ((c : Thread nD τ).loc b) := fun c b => W1 m ρ c b

/-- After kernel 0: its arrays at what the pipeline leaves, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of the kernel's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references. -/
abbrev V3 : (c : Dev nD) → (b : Ref sig .tc) → Buf (Elt F) ((c : Thread nD τ).loc b) := fun c b => W3 m ρ c b

/-- After kernel 1: its arrays at what the pipeline leaves, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of the kernel's output arrays keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references. -/
abbrev V5 : (c : Dev nD) → (b : Ref sig .tc) → Buf (Elt F) ((c : Thread nD τ).loc b) := fun c b => W5 m ρ c b

/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Kernel 0 over the thread state: entered from every unscoped buffer at one boundary's contents, left at the next one's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at one boundary's contents, left at the next one's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev hsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (hsegs m ρ) := (main_chain c).trans (by chain_rfl)

set_option backward.isDefEq.respectTransparency.types false in
/-- Every weakly fair execution from memory `m` with zero counters terminates without fault, every unscoped buffer then holds the
    last boundary's contents, and every semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (regions_no_unscoped g.2))⟩)

/-- The frame: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c _ (mem_uc main_arg0 (by decide))).trans (W5_args m ρ c main_arg0 (by decide)),
      (h.1 c _ (mem_uc main_arg1 (by decide))).trans (W5_args m ρ c main_arg1 (by decide)),
      (h.1 c _ (mem_uc main_arg2 (by decide))).trans (W5_args m ρ c main_arg2 (by decide)),
      (h.1 c _ (mem_uc main_arg3 (by decide))).trans (W5_args m ρ c main_arg3 (by decide)),
      (h.1 c _ (mem_uc main_arg4 (by decide))).trans (W5_args m ρ c main_arg4 (by decide)),
      (h.1 c _ (mem_uc main_arg5 (by decide))).trans (W5_args m ρ c main_arg5 (by decide)),
      (h.1 c _ (mem_uc main_arg6 (by decide))).trans (W5_args m ρ c main_arg6 (by decide)),
      (h.1 c _ (mem_uc main_arg7 (by decide))).trans (W5_args m ρ c main_arg7 (by decide))⟩, h.2⟩) (run m ρ)

end Cert.KernelIdeal.Hand

end
-- ==== Proof.KernelIdeal.Pay.lean ====
module

public import proofs.«01_k».proof.Proof.Gen.KernelIdeal.Skeleton
public import Idealize.ShloMosaic.PureOps.Ideal.Laws
public import Idealize.ShloMosaic.Lib.ValueIdx
public import Idealize.ShloMosaic.Lib.MatmulPlain
public import Idealize.ShloMosaic.Lib.Pipeline.Value

@[expose] public section

/-! # The kernels' block payloads over the extended reals, read at an index

One lemma per payload of the two kernels: what the element at row `m` and column `j` of a stored block is, from the
elements of the blocks it was computed from. -/

set_option maxRecDepth 16384

noncomputable section

namespace Cert.KernelIdeal.Hand

open Cert.KernelIdeal Cert.KernelIdeal.Gen Idealize.ShloMosaic Idealize.ShloMosaic.ValueIdx Idealize.SL.Sem
open scoped BigOperators

/-- The number two as the programs spell it. -/
abbrev two : EReal := Ideal.ofBits .f32 0x40000000#32

/-- The block part of the low-rank product: `Σ_j d[m,j] · b[r,j]` over the block's columns. -/
theorem pay2_apply (d : FVec Ideal S1792x512 .bf16) (b : Vec Ideal S48x512 .bf16) (m : Fin 1792) (r : Fin 48) :
    k0_pay2 d b (ix2 m r) = ∑ j : Fin 512, d (ix2 m j) * b (ix2 r j) :=
  (Ideal.matmul_transposedRhs_apply (M := 1792) (K := 512) (N := 48) none d b _ m r).trans (by
    rw [constant_apply, Ideal.ofBits_zero_f32, zero_add])

/-- The first block's accumulator is its part. -/
theorem pay3_apply (d : FVec Ideal S1792x512 .bf16) (b : Vec Ideal S48x512 .bf16) (m : Fin 1792) (r : Fin 48) :
    k0_pay3 d b (ix2 m r) = ∑ j : Fin 512, d (ix2 m j) * b (ix2 r j) := by
  unfold k0_pay3
  rw [shapeCast_self]; exact pay2_apply d b m r

/-- A later block's accumulator is the one before plus the block's part. -/
theorem pay4_apply (d : FVec Ideal S1792x512 .bf16) (b : Vec Ideal S48x512 .bf16) (a : Vec Ideal S1792x48 .f32) (m : Fin 1792) (r : Fin 48) :
    k0_pay4 d b a (ix2 m r) = a (ix2 m r) + ∑ j : Fin 512, d (ix2 m j) * b (ix2 r j) := by
  unfold k0_pay4
  rw [shapeCast_self, addf_apply, pay2_apply]

/-- The low-rank result is twice the accumulator. -/
theorem pay5_apply (a : Vec Ideal S1792x48 .f32) (m : Fin 1792) (r : Fin 48) :
    k0_pay5 a (ix2 m r) = two * a (ix2 m r) := rfl

/-- `Σ_m l[m,r] · d[m,o]`: the product contracting both operands' rows. -/
theorem dotRows_apply (l : FVec Ideal S1792x48 .bf16) (d : FVec Ideal S1792x512 .bf16) (a : FVec Ideal S48x512 .f32) (r : Fin 48) (o : Fin 512) :
    matmul dot_S1792x48_S1792x512_S48x512_0_0_1_1_n_n none l d a (ix2 r o) = a (ix2 r o) + ∑ m : Fin 1792, l (ix2 m r) * d (ix2 m o) := by
  have hk := contrEquiv1_symm_val dot_S1792x48_S1792x512_S48x512_0_0_1_1_n_n 1792 rfl rfl
  refine (Ideal.matmul_apply _ none l d a _).trans ?_
  rw [← Equiv.sum_comp (contrEquiv1 dot_S1792x48_S1792x512_S48x512_0_0_1_1_n_n 1792 rfl rfl).symm]
  refine congrArg (a (ix2 r o) + ·) (Finset.sum_congr rfl fun k _ => ?_)
  have el : dot_S1792x48_S1792x512_S48x512_0_0_1_1_n_n.lhsIdx (ix2 r o) ((contrEquiv1 dot_S1792x48_S1792x512_S48x512_0_0_1_1_n_n 1792 rfl rfl).symm k) = ix2 k r := by
    funext a; apply Fin.ext
    match a with
    | ⟨0, _⟩ => exact hk k
    | ⟨1, _⟩ => rfl
  have er : dot_S1792x48_S1792x512_S48x512_0_0_1_1_n_n.rhsIdx (ix2 r o) ((contrEquiv1 dot_S1792x48_S1792x512_S48x512_0_0_1_1_n_n 1792 rfl rfl).symm k) = ix2 k o := by
    funext a; apply Fin.ext
    match a with
    | ⟨0, _⟩ => exact hk k
    | ⟨1, _⟩ => rfl
  rw [el, er]

/-- The weight gradient's block: twice `Σ_m (z[m,r] · s[m]) · d[m,o]`. -/
theorem pay1_apply (d : FVec Ideal S1792x512 .bf16) (z : Vec Ideal S1792x48 .fp8e4m3) (s : Vec Ideal S1792x1 .f32) (r : Fin 48) (o : Fin 512) :
    k0_pay1 d z s (ix2 r o) = two * ∑ m : Fin 1792, (z (ix2 m r) * s (ix2 m (0 : Fin 1))) * d (ix2 m o) := by
  unfold k0_pay1
  rw [shapeCast_self, shapeCast_self, mulf_apply, dotRows_apply, constant_apply, Ideal.ofBits_zero_f32, zero_add]
  refine congrArg (two * ·) (Finset.sum_congr rfl fun m _ => ?_)
  rw [mulf_apply, extf_apply, broadcastTo_apply _ _ (ix2 m r) (ix2 m (0 : Fin 1)) (fun a => by match a with | ⟨0, _⟩ => rfl | ⟨1, _⟩ => rfl), truncf_apply]

/-- The block part of the base product: `Σ_j d[m,j] · w[n,j]` over the block's columns. -/
theorem kpay1_apply (d : Vec Ideal S1792x4736 .bf16) (w : Vec Ideal S512x4736 .fp8e4m3) (m : Fin 1792) (n : Fin 512) :
    k1_pay1 d w (ix2 m n) = ∑ j : Fin 4736, d (ix2 m j) * w (ix2 n j) := by
  unfold k1_pay1
  rw [shapeCast_self]
  exact (Ideal.matmul_transposedRhs_apply (M := 1792) (K := 4736) (N := 512) none d (extf .bf16 w bitsLt_fp8e4m3_bf16) _ m n).trans (by
    rw [constant_apply, Ideal.ofBits_zero_f32, zero_add]; rfl)

/-- The first block's accumulator is its part. -/
theorem kpay2_apply (d : Vec Ideal S1792x4736 .bf16) (w : Vec Ideal S512x4736 .fp8e4m3) (m : Fin 1792) (n : Fin 512) :
    k1_pay2 d w (ix2 m n) = ∑ j : Fin 4736, d (ix2 m j) * w (ix2 n j) := by
  unfold k1_pay2
  rw [shapeCast_self]; exact kpay1_apply d w m n

/-- A later block's accumulator is the one before plus the block's part. -/
theorem kpay3_apply (d : Vec Ideal S1792x4736 .bf16) (w : Vec Ideal S512x4736 .fp8e4m3) (a : Vec Ideal S1792x512 .f32) (m : Fin 1792) (n : Fin 512) :
    k1_pay3 d w a (ix2 m n) = a (ix2 m n) + ∑ j : Fin 4736, d (ix2 m j) * w (ix2 n j) := by
  unfold k1_pay3
  rw [shapeCast_self, addf_apply, kpay1_apply]

/-- The input gradient's block: the accumulator times the weight's scale, plus the low-rank part. -/
theorem kpay4_apply (h : Vec Ideal S1792x48 .bf16) (la : Vec Ideal S512x48 .bf16) (a : Vec Ideal S1792x512 .f32) (ws : Vec Ideal S1x512 .f32) (m : Fin 1792) (n : Fin 512) :
    k1_pay4 h la a ws (ix2 m n) = a (ix2 m n) * ws (ix2 (0 : Fin 1) n) + ∑ r : Fin 48, h (ix2 m r) * la (ix2 n r) := by
  unfold k1_pay4
  rw [shapeCast_self, shapeCast_self, truncf_apply, addf_apply, mulf_apply,
    broadcastTo_apply _ _ (ix2 m n) (ix2 (0 : Fin 1) n) (fun a => by match a with | ⟨0, _⟩ => rfl | ⟨1, _⟩ => rfl)]
  refine congrArg (_ + ·) ((Ideal.matmul_transposedRhs_apply (M := 1792) (K := 48) (N := 512) none h la _ m n).trans ?_)
  rw [constant_apply, Ideal.ofBits_zero_f32, zero_add]

/-! ## The one-hot column selection -/

/-- A column's 128-wide block inside a grid point, as the kernel's words compute it from the column `x`: the floored quotient. -/
def colWord (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32) (IntOp.divsi .vector x 128#32)

/-- It is the quotient by 128. -/
theorem colWord_eq : ∀ j : Fin 512, colWord (BitVec.ofNat 32 j.val) = BitVec.ofNat 32 (j.val / 128) := by decide +kernel

/-- The word of the comparison of row `k` with column `j`'s scale block at grid point `t`: one exactly at that row. -/
theorem hotWord_eq (t : Nat) (ht : t < 37) (k : Fin 148) (j : Fin 512) :
    IntOp.cmpi .eq (BitVec.ofNat 32 k.val) (IntOp.addi (colWord (BitVec.ofNat 32 j.val)) (Scalar.muli (BitVec.ofNat 32 t) 4#32))
      = if k.val = 4 * t + j.val / 128 then 1#1 else 0#1 := by
  rw [colWord_eq]
  have e : IntOp.addi (BitVec.ofNat 32 (j.val / 128)) (Scalar.muli (BitVec.ofNat 32 t) 4#32) = BitVec.ofNat 32 (4 * t + j.val / 128) := by
    apply BitVec.eq_of_toNat_eq
    show (BitVec.ofNat 32 (j.val / 128) + BitVec.ofNat 32 t * 4#32).toNat = _
    simp only [BitVec.toNat_add, BitVec.toNat_mul, BitVec.toNat_ofNat]
    have := j.isLt; omega
  rw [e]
  show BitVec.ofBool (BitVec.ofNat 32 k.val == BitVec.ofNat 32 (4 * t + j.val / 128)) = _
  by_cases h : k.val = 4 * t + j.val / 128
  · rw [if_pos h, h, beq_self_eq_true]; rfl
  · have hne : BitVec.ofNat 32 k.val ≠ BitVec.ofNat 32 (4 * t + j.val / 128) := fun q => h (by
      have := congrArg BitVec.toNat q
      simp only [BitVec.toNat_ofNat] at this
      have := j.isLt; have := k.isLt; omega)
    rw [if_neg h, beq_false_of_ne hne]; rfl

theorem rowWord (k : Fin 148) (j : Fin 512) : iota .tc S148x512 32 [0] iota_S148x512_d0_w32 (ix2 k j) = BitVec.ofNat 32 k.val :=
  iota_single_apply .tc S148x512 32 0 iota_S148x512_d0_w32 (ix2 k j)
theorem laneWord (k : Fin 148) (j : Fin 512) : iota .tc S148x512 32 [1] iota_S148x512_d1_w32 (ix2 k j) = BitVec.ofNat 32 j.val :=
  iota_single_apply .tc S148x512 32 1 iota_S148x512_d1_w32 (ix2 k j)

/-- `hotWord_eq` with the words as the two coordinate arrays give them. -/
theorem hotWord_iota (t : Nat) (ht : t < 37) (k : Fin 148) (j : Fin 512) :
    IntOp.cmpi .eq (iota .tc S148x512 32 [0] iota_S148x512_d0_w32 (ix2 k j))
        (IntOp.addi (colWord (iota .tc S148x512 32 [1] iota_S148x512_d1_w32 (ix2 k j))) (Scalar.muli (BitVec.ofNat 32 t) 4#32))
      = if k.val = 4 * t + j.val / 128 then 1#1 else 0#1 := by
  rw [rowWord, laneWord]; exact hotWord_eq t ht k j

/-- The dequantized block: the code times the scale its column's 128-wide block has in its row. The one-hot product picks
    that scale, every other term being a product by zero. -/
theorem pay6_apply (i : grid0.Coords) (s : Vec Ideal S1792x148 .f32) (x : Vec Ideal S1792x512 .fp8e5m2) (m : Fin 1792) (j : Fin 512) (q : Fin 148)
    (hq : q.val = 4 * (i 0).val + j.val / 128) :
    k0_pay6 i s x (ix2 m j) = x (ix2 m j) * s (ix2 m q) := by
  have ht : (i 0).val < 37 := (i 0).isLt
  unfold k0_pay6
  rw [shapeCast_self, shapeCast_self, mulf_apply, extf_apply, truncf_apply]
  refine congrArg (x (ix2 m j) * ·) ((Ideal.matmul_plain_apply (M := 1792) (K := 148) (N := 512) none _ _ _ m j).trans ?_)
  rw [constant_apply, Ideal.ofBits_zero_f32, zero_add, Finset.sum_eq_single q]
  · rw [truncf_apply, truncf_apply, sitofp_apply, extui_apply]
    simp only [cmpi, addi, select, andi, subi, remsi, divsi, extui_apply, broadcast_apply]
    have hw : _ = if q.val = 4 * (i 0).val + j.val / 128 then 1#1 else 0#1 := hotWord_iota (i 0).val ht q j
    rw [if_pos hq] at hw
    refine (congrArg (s (ix2 m q) * ·) ((congrArg (fun b : BitVec 1 => (((b.setWidth 32).toInt : ℝ) : EReal)) hw).trans ?_)).trans (mul_one _)
    norm_num
  · intro k _ hk
    rw [truncf_apply, truncf_apply, sitofp_apply, extui_apply]
    simp only [cmpi, addi, select, andi, subi, remsi, divsi, extui_apply, broadcast_apply]
    have hw : _ = if k.val = 4 * (i 0).val + j.val / 128 then 1#1 else 0#1 := hotWord_iota (i 0).val ht k j
    rw [if_neg (fun h => hk (Fin.ext (h.trans hq.symm)))] at hw
    refine (congrArg (s (ix2 m k) * ·) ((congrArg (fun b : BitVec 1 => (((b.setWidth 32).toInt : ℝ) : EReal)) hw).trans ?_)).trans (mul_zero _)
    norm_num
  · exact fun h => absurd (Finset.mem_univ q) h

end Cert.KernelIdeal.Hand
end
-- ==== Proof.KernelIdeal.Sums.lean ====
module

public import Mathlib.Data.EReal.Operations
public import Mathlib.Algebra.BigOperators.Fin
public import Mathlib.Algebra.BigOperators.Intervals

@[expose] public section

/-! # Sums over blocks of an axis -/

noncomputable section

namespace Cert.KernelIdeal.Hand

open scoped BigOperators

/-- A family over `Fin N`, zero past its end. -/
def ext {N : ℕ} (f : Fin N → EReal) (n : ℕ) : EReal := if h : n < N then f ⟨n, h⟩ else 0
theorem ext_of {N : ℕ} (f : Fin N → EReal) (n : ℕ) (h : n < N) : ext f n = f ⟨n, h⟩ := dif_pos h

/-- The sum over `K` blocks of `B` entries is the sum over the first `B * K` entries. -/
theorem sum_blocks_range (B : ℕ) (g : ℕ → EReal) : ∀ K : ℕ,
    ∑ s ∈ Finset.range K, ∑ j ∈ Finset.range B, g (B * s + j) = ∑ o ∈ Finset.range (B * K), g o
  | 0 => by rw [Finset.sum_range_zero, Nat.mul_zero, Finset.sum_range_zero]
  | K + 1 => by rw [Finset.sum_range_succ, sum_blocks_range B g K, Nat.mul_succ, Finset.sum_range_add]

/-- A sum over an axis, block by block. -/
theorem sum_blocks (B K N : ℕ) (h : B * K = N) (f : Fin N → EReal) :
    ∑ s ∈ Finset.range K, ∑ j ∈ Finset.range B, ext f (B * s + j) = ∑ o : Fin N, f o := by
  rw [sum_blocks_range, h, ← Fin.sum_univ_eq_sum_range]
  exact Finset.sum_congr rfl fun o _ => ext_of f o.val o.isLt

end Cert.KernelIdeal.Hand
end
-- ==== Proof.KernelIdeal.Vals0.lean ====
module

public import proofs.«01_k».proof.Proof.KernelIdeal.Data0
public import proofs.«01_k».proof.Proof.KernelIdeal.Pay
public import proofs.«01_k».proof.Proof.KernelIdeal.Sums
public import Idealize.ShloMosaic.Lib.Pipeline.Value

@[expose] public section

/-! # What the first kernel leaves in its three arrays, over the extended reals

The dequantized gradient is the code times its block's scale; the second factor's gradient and the low-rank gradient are
twice the whole contractions. -/

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx0_0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- The array `main_v0` as a function of its two coordinates. -/
def r_main_v0 (c : Dev nD) (a : Fin 1792) (b : Fin 18944) : EReal := V c main_v0 (ix2 a b)
/-- Input window 0's block at an index, in the array. -/
theorem in0_0 (c : Dev nD) (t : Fin cfg0.N) (a0 : Fin 1792) (a1 : Fin 512) (q1 : Fin 18944) (h1 : q1.val = 512 * (t.val) + a1.val) :
    @Eq EReal (iblk0 V c 0 t (ix2 a0 a1)) (r_main_v0 V c a0 q1) := by
  obtain ⟨e0, e1⟩ := idx0_0 t
  show V c main_v0 (((cfg0.win 0).blk t).view.emb (ix2 a0 a1)) = _
  refine congrArg (V c main_v0) (funext fun a => Fin.ext ?_)
  match a with
  | ⟨0, _⟩ => show win0_0.index t (0 : Fin 2) * 1792 + 1 * a0.val = a0.val; rw [e0]; omega
  | ⟨1, _⟩ => show win0_0.index t (1 : Fin 2) * 512 + 1 * a1.val = q1.val; rw [e1]; omega

theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The array `main_v1` as a function of its two coordinates. -/
def r_main_v1 (c : Dev nD) (a : Fin 1792) (b : Fin 148) : EReal := V c main_v1 (ix2 a b)
/-- Input window 1's block at an index, in the array. -/
theorem in0_1 (c : Dev nD) (t : Fin cfg0.N) (a0 : Fin 1792) (a1 : Fin 148) :
    @Eq EReal (iblk0 V c 1 t (ix2 a0 a1)) (r_main_v1 V c a0 a1) := by
  obtain ⟨e0, e1⟩ := idx0_1 t
  show V c main_v1 (((cfg0.win 1).blk t).view.emb (ix2 a0 a1)) = _
  refine congrArg (V c main_v1) (funext fun a => Fin.ext ?_)
  match a with
  | ⟨0, _⟩ => show win0_1.index t (0 : Fin 2) * 1792 + 1 * a0.val = a0.val; rw [e0]; omega
  | ⟨1, _⟩ => show win0_1.index t (1 : Fin 2) * 148 + 1 * a1.val = a1.val; rw [e1]; omega

theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The array `main_v2` as a function of its two coordinates. -/
def r_main_v2 (c : Dev nD) (a : Fin 1792) (b : Fin 48) : EReal := V c main_v2 (ix2 a b)
/-- Input window 2's block at an index, in the array. -/
theorem in0_2 (c : Dev nD) (t : Fin cfg0.N) (a0 : Fin 1792) (a1 : Fin 48) :
    @Eq EReal (iblk0 V c 2 t (ix2 a0 a1)) (r_main_v2 V c a0 a1) := by
  obtain ⟨e0, e1⟩ := idx0_2 t
  show V c main_v2 (((cfg0.win 2).blk t).view.emb (ix2 a0 a1)) = _
  refine congrArg (V c main_v2) (funext fun a => Fin.ext ?_)
  match a with
  | ⟨0, _⟩ => show win0_2.index t (0 : Fin 2) * 1792 + 1 * a0.val = a0.val; rw [e0]; omega
  | ⟨1, _⟩ => show win0_2.index t (1 : Fin 2) * 48 + 1 * a1.val = a1.val; rw [e1]; omega

theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The array `main_v3` as a function of its two coordinates. -/
def r_main_v3 (c : Dev nD) (a : Fin 1792) (b : Fin 1) : EReal := V c main_v3 (ix2 a b)
/-- Input window 3's block at an index, in the array. -/
theorem in0_3 (c : Dev nD) (t : Fin cfg0.N) (a0 : Fin 1792) (a1 : Fin 1) :
    @Eq EReal (iblk0 V c 3 t (ix2 a0 a1)) (r_main_v3 V c a0 a1) := by
  obtain ⟨e0, e1⟩ := idx0_3 t
  show V c main_v3 (((cfg0.win 3).blk t).view.emb (ix2 a0 a1)) = _
  refine congrArg (V c main_v3) (funext fun a => Fin.ext ?_)
  match a with
  | ⟨0, _⟩ => show win0_3.index t (0 : Fin 2) * 1792 + 1 * a0.val = a0.val; rw [e0]; omega
  | ⟨1, _⟩ => show win0_3.index t (1 : Fin 2) * 1 + 1 * a1.val = a1.val; rw [e1]; omega

theorem idx0_4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)
/-- The array `main_arg7` as a function of its two coordinates. -/
def r_main_arg7 (c : Dev nD) (a : Fin 48) (b : Fin 18944) : EReal := V c main_arg7 (ix2 a b)
/-- Input window 4's block at an index, in the array. -/
theorem in0_4 (c : Dev nD) (t : Fin cfg0.N) (a0 : Fin 48) (a1 : Fin 512) (q1 : Fin 18944) (h1 : q1.val = 512 * (t.val) + a1.val) :
    @Eq EReal (iblk0 V c 4 t (ix2 a0 a1)) (r_main_arg7 V c a0 q1) := by
  obtain ⟨e0, e1⟩ := idx0_4 t
  show V c main_arg7 (((cfg0.win 4).blk t).view.emb (ix2 a0 a1)) = _
  refine congrArg (V c main_arg7) (funext fun a => Fin.ext ?_)
  match a with
  | ⟨0, _⟩ => show win0_4.index t (0 : Fin 2) * 48 + 1 * a0.val = a0.val; rw [e0]; omega
  | ⟨1, _⟩ => show win0_4.index t (1 : Fin 2) * 512 + 1 * a1.val = q1.val; rw [e1]; omega

/-- The grid's one coordinate is the point. -/
theorem coord0 : ∀ t : Fin cfg0.N, (grid0.coords t 0).val = t.val := (by decide +kernel : ∀ t : Fin grid0.N, (grid0.coords t 0).val = t.val)

/-- The dequantized gradient: the code times the scale of its 128-wide block. -/
def dy (c : Dev nD) (m : Fin 1792) (o : Fin 18944) : EReal := r_main_v0 V c m o * r_main_v1 V c m ⟨o.val / 128, by omega⟩
/-- The arrays the kernel leaves. -/
def dyArr (c : Dev nD) : Buf (Elt Ideal) ((c : Thread nD τ).loc main_v4_0) := fun i => dy V c (i 0) (i 1)
def dbArr (c : Dev nD) : Buf (Elt Ideal) ((c : Thread nD τ).loc main_v4_1) := fun i =>
  two * ∑ m : Fin 1792, (r_main_v2 V c m (i 0) * r_main_v3 V c m (0 : Fin 1)) * dy V c m (i 1)
def dhArr (c : Dev nD) : Buf (Elt Ideal) ((c : Thread nD τ).loc main_v4_2) := fun i =>
  two * ∑ o : Fin 18944, dy V c (i 0) o * r_main_arg7 V c (i 1) o

/-- The dequantized block of a point. -/
theorem dyb0_apply (c : Dev nD) (t : Fin cfg0.N) (m : Fin 1792) (j : Fin 512) (o : Fin 18944) (ho : o.val = 512 * t.val + j.val) :
    @Eq EReal (dyb0 V c t (ix2 m j)) (dy V c m o) := by
  unfold dyb0 dy
  rw [pay6_apply (grid0.coords t) _ _ m j ⟨o.val / 128, by omega⟩ (by rw [coord0]; show o.val / 128 = _; omega), in0_0 V c t m j o ho, in0_1 V c t]

/-- The accumulator after point `t`: the sum of the blocks up to it. -/
theorem acc0_apply (c : Dev nD) (m : Fin 1792) (r : Fin 48) : ∀ (n : ℕ) (hn : n < cfg0.N),
    @Eq EReal (acc0 V c n hn (ix2 m r)) <| ∑ s ∈ Finset.range (n + 1), ∑ j ∈ Finset.range 512, ext (fun o : Fin 18944 => dy V c m o * r_main_arg7 V c r o) (512 * s + j) := by
  have part : ∀ t : Fin cfg0.N, ∑ j : Fin 512, @HMul.hMul EReal EReal EReal _ (dyb0 V c t (ix2 m j)) (iblk0 V c 4 t (ix2 r j))
      = ∑ j ∈ Finset.range 512, ext (fun o : Fin 18944 => dy V c m o * r_main_arg7 V c r o) (512 * t.val + j) := fun t => by
    have ht : t.val < 37 := lt_of_lt_of_eq t.isLt N_0
    rw [← Fin.sum_univ_eq_sum_range (fun j => ext (fun o : Fin 18944 => dy V c m o * r_main_arg7 V c r o) (512 * t.val + j)) 512]
    refine Finset.sum_congr rfl fun j _ => ?_
    rw [ext_of _ _ (show 512 * t.val + j.val < 18944 by omega), dyb0_apply V c t m j ⟨512 * t.val + j.val, by omega⟩ rfl, in0_4 V c t r j ⟨512 * t.val + j.val, by omega⟩ rfl]
  intro n
  induction n with
  | zero => intro hn; rw [Finset.sum_range_one, ← part ⟨0, hn⟩]; exact pay3_apply _ _ m r
  | succ n ih =>
    intro hn
    have hn' : n + 1 < 37 := lt_of_lt_of_eq hn N_0
    rw [Finset.sum_range_succ, ← ih (Nat.lt_of_succ_lt hn), ← part ⟨n + 1, hn⟩]
    have e := acc0_next V c ⟨n + 1, hn⟩ (by show ¬(n + 1) % 37 = 0; omega)
    exact (congrFun e (ix2 m r)).trans (pay4_apply _ _ _ m r)

theorem idx0_5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)
theorem mem_blk0_5 (t : Fin cfg0.N) (i : S1792x18944.Idx) :
    i ∈ ((cfg0.win 5).blk t).view.set ↔ ∀ a : Fin 2, win0_5.index t a * S1792x512.size a ≤ (i a).val ∧ (i a).val < win0_5.index t a * S1792x512.size a + S1792x512.size a := by
  show i ∈ ((View.whole main_v4_0).slice (win0_5.rect t)).set ↔ _
  rw [View.set_slice_whole, Rect.mem_set_unit]
  exact Iff.rfl
theorem cover0_5 (i : S1792x18944.Idx) : ∃ t : Fin cfg0.N, (cfg0.win 5).flush t = true ∧ i ∈ ((cfg0.win 5).blk t).view.set := by
  have hi0 : (i 0).val < 1792 := (i 0).isLt
  have hi1 : (i 1).val < 18944 := (i 1).isLt
  have hN : (i 1).val / 512 < cfg0.N := lt_of_lt_of_eq (by omega : (i 1).val / 512 < 37) N_0.symm
  refine ⟨⟨(i 1).val / 512, hN⟩, flush0_5 _, ?_⟩
  rw [mem_blk0_5]
  obtain ⟨e0, e1⟩ := idx0_5 ⟨(i 1).val / 512, hN⟩
  (try dsimp only at e0 e1)
  intro a
  match a with
  | ⟨0, _⟩ => show win0_5.index _ (0 : Fin 2) * 1792 ≤ (i 0).val ∧ (i 0).val < win0_5.index _ (0 : Fin 2) * 1792 + 1792; rw [e0]; omega
  | ⟨1, _⟩ => show win0_5.index _ (1 : Fin 2) * 512 ≤ (i 1).val ∧ (i 1).val < win0_5.index _ (1 : Fin 2) * 512 + 512; rw [e1]; omega
/-- Output window 5's array after the kernel. -/
theorem final0_5 (c : Dev nD) : (dat0 V c).arrAt 5 cfg0.N = dyArr V c := by
  refine (dat0 V c).arrAt_eq_of_cover 5 _ (fun t hf => ?_) (fun i => cover0_5 i)
  show (cfg0.win 5).cut (grid0.coords t) ((dat0 V c).after 5 t) = _
  rw [after0_5]
  obtain ⟨e0, e1⟩ := idx0_5 t
  funext y
  have hy0 : (y 0).val < 1792 := (y 0).isLt
  have hy1 : (y 1).val < 512 := (y 1).isLt
  have ht : t.val < 37 := lt_of_lt_of_eq t.isLt N_0
  obtain ⟨a0, h0⟩ : ∃ a0 : Fin 1792, a0.val = (y 0).val := ⟨⟨(y 0).val, hy0⟩, rfl⟩
  obtain ⟨a1, h1⟩ : ∃ a1 : Fin 512, a1.val = (y 1).val := ⟨⟨(y 1).val, hy1⟩, rfl⟩
  have hl : (cfg0.win 5).xinj (grid0.coords t) y = ix2 a0 a1 := by
    funext a; apply Fin.ext
    match a with
    | ⟨0, _⟩ => exact h0.symm
    | ⟨1, _⟩ => exact h1.symm
  obtain ⟨q0, g0⟩ : ∃ q0 : Fin 1792, q0.val = 1792 * (0) + a0.val := ⟨⟨1792 * (0) + a0.val, by omega⟩, rfl⟩
  obtain ⟨q1, g1⟩ : ∃ q1 : Fin 18944, q1.val = 512 * (t.val) + a1.val := ⟨⟨512 * (t.val) + a1.val, by omega⟩, rfl⟩
  have he : ((cfg0.win 5).blk t).view.emb y = ix2 q0 q1 := by
    funext a; apply Fin.ext
    match a with
    | ⟨0, _⟩ => show win0_5.index t (0 : Fin 2) * 1792 + 1 * (y 0).val = q0.val; rw [e0]; omega
    | ⟨1, _⟩ => show win0_5.index t (1 : Fin 2) * 512 + 1 * (y 1).val = q1.val; rw [e1]; omega
  show dyb0 V c t ((cfg0.win 5).xinj (grid0.coords t) y) = dyArr V c (((cfg0.win 5).blk t).view.emb y)
  rw [hl, he, dyb0_apply V c t a0 a1 q1 g1]
  show _ = dy V c q0 q1
  rw [show q0 = a0 from Fin.ext (by omega)]
theorem idx0_6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)
theorem mem_blk0_6 (t : Fin cfg0.N) (i : S48x18944.Idx) :
    i ∈ ((cfg0.win 6).blk t).view.set ↔ ∀ a : Fin 2, win0_6.index t a * S48x512.size a ≤ (i a).val ∧ (i a).val < win0_6.index t a * S48x512.size a + S48x512.size a := by
  show i ∈ ((View.whole main_v4_1).slice (win0_6.rect t)).set ↔ _
  rw [View.set_slice_whole, Rect.mem_set_unit]
  exact Iff.rfl
theorem cover0_6 (i : S48x18944.Idx) : ∃ t : Fin cfg0.N, (cfg0.win 6).flush t = true ∧ i ∈ ((cfg0.win 6).blk t).view.set := by
  have hi0 : (i 0).val < 48 := (i 0).isLt
  have hi1 : (i 1).val < 18944 := (i 1).isLt
  have hN : (i 1).val / 512 < cfg0.N := lt_of_lt_of_eq (by omega : (i 1).val / 512 < 37) N_0.symm
  refine ⟨⟨(i 1).val / 512, hN⟩, flush0_6 _, ?_⟩
  rw [mem_blk0_6]
  obtain ⟨e0, e1⟩ := idx0_6 ⟨(i 1).val / 512, hN⟩
  (try dsimp only at e0 e1)
  intro a
  match a with
  | ⟨0, _⟩ => show win0_6.index _ (0 : Fin 2) * 48 ≤ (i 0).val ∧ (i 0).val < win0_6.index _ (0 : Fin 2) * 48 + 48; rw [e0]; omega
  | ⟨1, _⟩ => show win0_6.index _ (1 : Fin 2) * 512 ≤ (i 1).val ∧ (i 1).val < win0_6.index _ (1 : Fin 2) * 512 + 512; rw [e1]; omega
/-- Output window 6's array after the kernel. -/
theorem final0_6 (c : Dev nD) : (dat0 V c).arrAt 6 cfg0.N = dbArr V c := by
  refine (dat0 V c).arrAt_eq_of_cover 6 _ (fun t hf => ?_) (fun i => cover0_6 i)
  show (cfg0.win 6).cut (grid0.coords t) ((dat0 V c).after 6 t) = _
  rw [after0_6]
  obtain ⟨e0, e1⟩ := idx0_6 t
  funext y
  have hy0 : (y 0).val < 48 := (y 0).isLt
  have hy1 : (y 1).val < 512 := (y 1).isLt
  have ht : t.val < 37 := lt_of_lt_of_eq t.isLt N_0
  obtain ⟨a0, h0⟩ : ∃ a0 : Fin 48, a0.val = (y 0).val := ⟨⟨(y 0).val, hy0⟩, rfl⟩
  obtain ⟨a1, h1⟩ : ∃ a1 : Fin 512, a1.val = (y 1).val := ⟨⟨(y 1).val, hy1⟩, rfl⟩
  have hl : (cfg0.win 6).xinj (grid0.coords t) y = ix2 a0 a1 := by
    funext a; apply Fin.ext
    match a with
    | ⟨0, _⟩ => exact h0.symm
    | ⟨1, _⟩ => exact h1.symm
  obtain ⟨q0, g0⟩ : ∃ q0 : Fin 48, q0.val = 48 * (0) + a0.val := ⟨⟨48 * (0) + a0.val, by omega⟩, rfl⟩
  obtain ⟨q1, g1⟩ : ∃ q1 : Fin 18944, q1.val = 512 * (t.val) + a1.val := ⟨⟨512 * (t.val) + a1.val, by omega⟩, rfl⟩
  have he : ((cfg0.win 6).blk t).view.emb y = ix2 q0 q1 := by
    funext a; apply Fin.ext
    match a with
    | ⟨0, _⟩ => show win0_6.index t (0 : Fin 2) * 48 + 1 * (y 0).val = q0.val; rw [e0]; omega
    | ⟨1, _⟩ => show win0_6.index t (1 : Fin 2) * 512 + 1 * (y 1).val = q1.val; rw [e1]; omega
  show db0 V c t ((cfg0.win 6).xinj (grid0.coords t) y) = dbArr V c (((cfg0.win 6).blk t).view.emb y)
  rw [hl, he]
  unfold db0
  rw [pay1_apply]
  show _ = two * ∑ m : Fin 1792, (r_main_v2 V c m q0 * r_main_v3 V c m (0 : Fin 1)) * dy V c m q1
  rw [show q0 = a0 from Fin.ext (by omega)]
  refine congrArg (two * ·) (Finset.sum_congr rfl fun m _ => ?_)
  rw [dyb0_apply V c t m a1 q1 g1, in0_2 V c t, in0_3 V c t]
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem mem_blk0_7 (t : Fin cfg0.N) (i : S1792x48.Idx) :
    i ∈ ((cfg0.win 7).blk t).view.set ↔ ∀ a : Fin 2, win0_7.index t a * S1792x48.size a ≤ (i a).val ∧ (i a).val < win0_7.index t a * S1792x48.size a + S1792x48.size a := by
  show i ∈ ((View.whole main_v4_2).slice (win0_7.rect t)).set ↔ _
  rw [View.set_slice_whole, Rect.mem_set_unit]
  exact Iff.rfl
theorem cover0_7 (i : S1792x48.Idx) : ∃ t : Fin cfg0.N, (cfg0.win 7).flush t = true ∧ i ∈ ((cfg0.win 7).blk t).view.set := by
  have hi0 : (i 0).val < 1792 := (i 0).isLt
  have hi1 : (i 1).val < 48 := (i 1).isLt
  have hN : 36 < cfg0.N := lt_of_lt_of_eq (by omega : 36 < 37) N_0.symm
  refine ⟨⟨36, hN⟩, (flush0_7 _).mpr rfl, ?_⟩
  rw [mem_blk0_7]
  obtain ⟨e0, e1⟩ := idx0_7 ⟨36, hN⟩
  (try dsimp only at e0 e1)
  intro a
  match a with
  | ⟨0, _⟩ => show win0_7.index _ (0 : Fin 2) * 1792 ≤ (i 0).val ∧ (i 0).val < win0_7.index _ (0 : Fin 2) * 1792 + 1792; rw [e0]; omega
  | ⟨1, _⟩ => show win0_7.index _ (1 : Fin 2) * 48 ≤ (i 1).val ∧ (i 1).val < win0_7.index _ (1 : Fin 2) * 48 + 48; rw [e1]; omega
/-- Output window 7's array after the kernel. -/
theorem final0_7 (c : Dev nD) : (dat0 V c).arrAt 7 cfg0.N = dhArr V c := by
  refine (dat0 V c).arrAt_eq_of_cover 7 _ (fun t hf => ?_) (fun i => cover0_7 i)
  show (cfg0.win 7).cut (grid0.coords t) ((dat0 V c).after 7 t) = _
  rw [after0_7]
  obtain ⟨e0, e1⟩ := idx0_7 t
  funext y
  have hy0 : (y 0).val < 1792 := (y 0).isLt
  have hy1 : (y 1).val < 48 := (y 1).isLt
  have ht : t.val < 37 := lt_of_lt_of_eq t.isLt N_0
  obtain ⟨a0, h0⟩ : ∃ a0 : Fin 1792, a0.val = (y 0).val := ⟨⟨(y 0).val, hy0⟩, rfl⟩
  obtain ⟨a1, h1⟩ : ∃ a1 : Fin 48, a1.val = (y 1).val := ⟨⟨(y 1).val, hy1⟩, rfl⟩
  have hl : (cfg0.win 7).xinj (grid0.coords t) y = ix2 a0 a1 := by
    funext a; apply Fin.ext
    match a with
    | ⟨0, _⟩ => exact h0.symm
    | ⟨1, _⟩ => exact h1.symm
  obtain ⟨q0, g0⟩ : ∃ q0 : Fin 1792, q0.val = 1792 * (0) + a0.val := ⟨⟨1792 * (0) + a0.val, by omega⟩, rfl⟩
  obtain ⟨q1, g1⟩ : ∃ q1 : Fin 48, q1.val = 48 * (0) + a1.val := ⟨⟨48 * (0) + a1.val, by omega⟩, rfl⟩
  have he : ((cfg0.win 7).blk t).view.emb y = ix2 q0 q1 := by
    funext a; apply Fin.ext
    match a with
    | ⟨0, _⟩ => show win0_7.index t (0 : Fin 2) * 1792 + 1 * (y 0).val = q0.val; rw [e0]; omega
    | ⟨1, _⟩ => show win0_7.index t (1 : Fin 2) * 48 + 1 * (y 1).val = q1.val; rw [e1]; omega
  show k0_pay5 (acc0 V c t.val t.isLt) ((cfg0.win 7).xinj (grid0.coords t) y) = dhArr V c (((cfg0.win 7).blk t).view.emb y)
  rw [hl, he, pay5_apply, acc0_apply]
  have h36 : t.val % 37 = 36 := (flush0_7 t).mp hf
  rw [show t.val + 1 = 37 by omega]
  show _ = two * ∑ o : Fin 18944, dy V c q0 o * r_main_arg7 V c q1 o
  rw [show q0 = a0 from Fin.ext (by omega), show q1 = a1 from Fin.ext (by omega)]
  exact congrArg (two * ·) (sum_blocks 512 37 18944 rfl _)

end Cert.KernelIdeal.Hand
end
-- ==== Proof.KernelIdeal.Vals1.lean ====
module

public import proofs.«01_k».proof.Proof.KernelIdeal.Data1
public import proofs.«01_k».proof.Proof.KernelIdeal.Pay
public import proofs.«01_k».proof.Proof.KernelIdeal.Sums
public import Idealize.ShloMosaic.Lib.Pipeline.Value

@[expose] public section

/-! # What the second kernel leaves in its array, over the extended reals

The input gradient: the whole base contraction times the weight's scale, plus the low-rank product. -/

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx1_0 : ∀ t : Fin cfg1.N, win1_0.index t (0 : Fin 2) = 0 ∧ win1_0.index t (1 : Fin 2) = t.val % 4 :=
  (by decide +kernel : ∀ t : Fin grid1.N, win1_0.index t (0 : Fin 2) = 0 ∧ win1_0.index t (1 : Fin 2) = t.val % 4)
/-- The array `main_v4_0` as a function of its two coordinates. -/
def r_main_v4_0 (c : Dev nD) (a : Fin 1792) (b : Fin 18944) : EReal := V c main_v4_0 (ix2 a b)
/-- Input window 0's block at an index, in the array. -/
theorem in1_0 (c : Dev nD) (t : Fin cfg1.N) (a0 : Fin 1792) (a1 : Fin 4736) (q1 : Fin 18944) (h1 : q1.val = 4736 * (t.val % 4) + a1.val) :
    @Eq EReal (iblk1 V c 0 t (ix2 a0 a1)) (r_main_v4_0 V c a0 q1) := by
  obtain ⟨e0, e1⟩ := idx1_0 t
  show V c main_v4_0 (((cfg1.win 0).blk t).view.emb (ix2 a0 a1)) = _
  refine congrArg (V c main_v4_0) (funext fun a => Fin.ext ?_)
  match a with
  | ⟨0, _⟩ => show win1_0.index t (0 : Fin 2) * 1792 + 1 * a0.val = a0.val; rw [e0]; omega
  | ⟨1, _⟩ => show win1_0.index t (1 : Fin 2) * 4736 + 1 * a1.val = q1.val; rw [e1]; omega

theorem idx1_1 : ∀ t : Fin cfg1.N, win1_1.index t (0 : Fin 2) = t.val / 4 ∧ win1_1.index t (1 : Fin 2) = t.val % 4 :=
  (by decide +kernel : ∀ t : Fin grid1.N, win1_1.index t (0 : Fin 2) = t.val / 4 ∧ win1_1.index t (1 : Fin 2) = t.val % 4)
/-- The array `main_arg4` as a function of its two coordinates. -/
def r_main_arg4 (c : Dev nD) (a : Fin 3584) (b : Fin 18944) : EReal := V c main_arg4 (ix2 a b)
/-- Input window 1's block at an index, in the array. -/
theorem in1_1 (c : Dev nD) (t : Fin cfg1.N) (a0 : Fin 512) (a1 : Fin 4736) (q0 : Fin 3584) (h0 : q0.val = 512 * (t.val / 4) + a0.val) (q1 : Fin 18944) (h1 : q1.val = 4736 * (t.val % 4) + a1.val) :
    @Eq EReal (iblk1 V c 1 t (ix2 a0 a1)) (r_main_arg4 V c q0 q1) := by
  obtain ⟨e0, e1⟩ := idx1_1 t
  show V c main_arg4 (((cfg1.win 1).blk t).view.emb (ix2 a0 a1)) = _
  refine congrArg (V c main_arg4) (funext fun a => Fin.ext ?_)
  match a with
  | ⟨0, _⟩ => show win1_1.index t (0 : Fin 2) * 512 + 1 * a0.val = q0.val; rw [e0]; omega
  | ⟨1, _⟩ => show win1_1.index t (1 : Fin 2) * 4736 + 1 * a1.val = q1.val; rw [e1]; omega

theorem idx1_2 : ∀ t : Fin cfg1.N, win1_2.index t (0 : Fin 2) = 0 ∧ win1_2.index t (1 : Fin 2) = t.val / 4 :=
  (by decide +kernel : ∀ t : Fin grid1.N, win1_2.index t (0 : Fin 2) = 0 ∧ win1_2.index t (1 : Fin 2) = t.val / 4)
/-- The array `main_v5` as a function of its two coordinates. -/
def r_main_v5 (c : Dev nD) (a : Fin 1) (b : Fin 3584) : EReal := V c main_v5 (ix2 a b)
/-- Input window 2's block at an index, in the array. -/
theorem in1_2 (c : Dev nD) (t : Fin cfg1.N) (a0 : Fin 1) (a1 : Fin 512) (q1 : Fin 3584) (h1 : q1.val = 512 * (t.val / 4) + a1.val) :
    @Eq EReal (iblk1 V c 2 t (ix2 a0 a1)) (r_main_v5 V c a0 q1) := by
  obtain ⟨e0, e1⟩ := idx1_2 t
  show V c main_v5 (((cfg1.win 2).blk t).view.emb (ix2 a0 a1)) = _
  refine congrArg (V c main_v5) (funext fun a => Fin.ext ?_)
  match a with
  | ⟨0, _⟩ => show win1_2.index t (0 : Fin 2) * 1 + 1 * a0.val = a0.val; rw [e0]; omega
  | ⟨1, _⟩ => show win1_2.index t (1 : Fin 2) * 512 + 1 * a1.val = q1.val; rw [e1]; omega

theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- The array `main_v4_2` as a function of its two coordinates. -/
def r_main_v4_2 (c : Dev nD) (a : Fin 1792) (b : Fin 48) : EReal := V c main_v4_2 (ix2 a b)
/-- Input window 3's block at an index, in the array. -/
theorem in1_3 (c : Dev nD) (t : Fin cfg1.N) (a0 : Fin 1792) (a1 : Fin 48) :
    @Eq EReal (iblk1 V c 3 t (ix2 a0 a1)) (r_main_v4_2 V c a0 a1) := by
  obtain ⟨e0, e1⟩ := idx1_3 t
  show V c main_v4_2 (((cfg1.win 3).blk t).view.emb (ix2 a0 a1)) = _
  refine congrArg (V c main_v4_2) (funext fun a => Fin.ext ?_)
  match a with
  | ⟨0, _⟩ => show win1_3.index t (0 : Fin 2) * 1792 + 1 * a0.val = a0.val; rw [e0]; omega
  | ⟨1, _⟩ => show win1_3.index t (1 : Fin 2) * 48 + 1 * a1.val = a1.val; rw [e1]; omega

theorem idx1_4 : ∀ t : Fin cfg1.N, win1_4.index t (0 : Fin 2) = t.val / 4 ∧ win1_4.index t (1 : Fin 2) = 0 :=
  (by decide +kernel : ∀ t : Fin grid1.N, win1_4.index t (0 : Fin 2) = t.val / 4 ∧ win1_4.index t (1 : Fin 2) = 0)
/-- The array `main_arg6` as a function of its two coordinates. -/
def r_main_arg6 (c : Dev nD) (a : Fin 3584) (b : Fin 48) : EReal := V c main_arg6 (ix2 a b)
/-- Input window 4's block at an index, in the array. -/
theorem in1_4 (c : Dev nD) (t : Fin cfg1.N) (a0 : Fin 512) (a1 : Fin 48) (q0 : Fin 3584) (h0 : q0.val = 512 * (t.val / 4) + a0.val) :
    @Eq EReal (iblk1 V c 4 t (ix2 a0 a1)) (r_main_arg6 V c q0 a1) := by
  obtain ⟨e0, e1⟩ := idx1_4 t
  show V c main_arg6 (((cfg1.win 4).blk t).view.emb (ix2 a0 a1)) = _
  refine congrArg (V c main_arg6) (funext fun a => Fin.ext ?_)
  match a with
  | ⟨0, _⟩ => show win1_4.index t (0 : Fin 2) * 512 + 1 * a0.val = q0.val; rw [e0]; omega
  | ⟨1, _⟩ => show win1_4.index t (1 : Fin 2) * 48 + 1 * a1.val = a1.val; rw [e1]; omega

set_option maxHeartbeats 1000000
/-- The array the kernel leaves. -/
def dxArr (c : Dev nD) : Buf (Elt Ideal) ((c : Thread nD τ).loc main_v6) := fun i =>
  (∑ o : Fin 18944, (r_main_v4_0 V c (i 0) o * r_main_arg4 V c (i 1) o : EReal)) * r_main_v5 V c (0 : Fin 1) (i 1)
    + ∑ r : Fin 48, (r_main_v4_2 V c (i 0) r * r_main_arg6 V c (i 1) r : EReal)

/-- The accumulator after point `t`: the sum of the blocks of its output column block up to it. -/
theorem acc1_apply (c : Dev nD) (m : Fin 1792) (a : Fin 512) : ∀ (n : ℕ) (hn : n < cfg1.N) (q : Fin 3584) (_ : q.val = 512 * (n / 4) + a.val),
    @Eq EReal (acc1 V c n hn (ix2 m a)) <| ∑ s ∈ Finset.range (n % 4 + 1), ∑ j ∈ Finset.range 4736, ext (fun o : Fin 18944 => (r_main_v4_0 V c m o * r_main_arg4 V c q o : EReal)) (4736 * s + j) := by
  have part : ∀ (t : Fin cfg1.N) (q : Fin 3584) (_ : q.val = 512 * (t.val / 4) + a.val), ∑ j : Fin 4736, @HMul.hMul EReal EReal EReal _ (iblk1 V c 0 t (ix2 m j)) (iblk1 V c 1 t (ix2 a j))
      = ∑ j ∈ Finset.range 4736, ext (fun o : Fin 18944 => (r_main_v4_0 V c m o * r_main_arg4 V c q o : EReal)) (4736 * (t.val % 4) + j) := fun t q hq => by
    have ht : t.val % 4 < 4 := Nat.mod_lt _ (by decide)
    rw [← Fin.sum_univ_eq_sum_range (fun j => ext (fun o : Fin 18944 => (r_main_v4_0 V c m o * r_main_arg4 V c q o : EReal)) (4736 * (t.val % 4) + j)) 4736]
    refine Finset.sum_congr rfl fun j _ => ?_
    rw [ext_of _ _ (show 4736 * (t.val % 4) + j.val < 18944 by omega), in1_0 V c t m j ⟨4736 * (t.val % 4) + j.val, by omega⟩ rfl, in1_1 V c t a j q hq ⟨4736 * (t.val % 4) + j.val, by omega⟩ rfl]
  have first : ∀ (t : Fin cfg1.N) (q : Fin 3584) (_ : q.val = 512 * (t.val / 4) + a.val), t.val % 4 = 0 →
      @Eq EReal (acc1 V c t.val t.isLt (ix2 m a)) (∑ s ∈ Finset.range (t.val % 4 + 1), ∑ j ∈ Finset.range 4736, ext (fun o : Fin 18944 => (r_main_v4_0 V c m o * r_main_arg4 V c q o : EReal)) (4736 * s + j)) := fun t q hq h => by
    have p := part t q hq
    rw [h] at p
    rw [h, Finset.sum_range_one, ← p]
    exact (congrFun (acc1_first V c t h) (ix2 m a)).trans (kpay2_apply _ _ m a)
  intro n
  induction n with
  | zero => intro hn q hq; exact first ⟨0, hn⟩ q hq rfl
  | succ n ih =>
    intro hn q hq
    by_cases h : (n + 1) % 4 = 0
    · exact first ⟨n + 1, hn⟩ q hq h
    · have p := part ⟨n + 1, hn⟩ q hq
      dsimp only at p
      have e : (n + 1) % 4 = n % 4 + 1 := by omega
      rw [e] at p
      rw [e, Finset.sum_range_succ, ← ih (Nat.lt_of_succ_lt hn) q (by omega), ← p]
      exact (congrFun (acc1_next V c ⟨n + 1, hn⟩ h) (ix2 m a)).trans (kpay3_apply _ _ _ m a)

theorem idx1_5 : ∀ t : Fin cfg1.N, win1_5.index t (0 : Fin 2) = 0 ∧ win1_5.index t (1 : Fin 2) = t.val / 4 :=
  (by decide +kernel : ∀ t : Fin grid1.N, win1_5.index t (0 : Fin 2) = 0 ∧ win1_5.index t (1 : Fin 2) = t.val / 4)
theorem mem_blk1_5 (t : Fin cfg1.N) (i : S1792x3584.Idx) :
    i ∈ ((cfg1.win 5).blk t).view.set ↔ ∀ a : Fin 2, win1_5.index t a * S1792x512.size a ≤ (i a).val ∧ (i a).val < win1_5.index t a * S1792x512.size a + S1792x512.size a := by
  show i ∈ ((View.whole main_v6).slice (win1_5.rect t)).set ↔ _
  rw [View.set_slice_whole, Rect.mem_set_unit]
  exact Iff.rfl
theorem cover1_5 (i : S1792x3584.Idx) : ∃ t : Fin cfg1.N, (cfg1.win 5).flush t = true ∧ i ∈ ((cfg1.win 5).blk t).view.set := by
  have hi0 : (i 0).val < 1792 := (i 0).isLt
  have hi1 : (i 1).val < 3584 := (i 1).isLt
  have hN : 4 * ((i 1).val / 512) + 3 < cfg1.N := lt_of_lt_of_eq (by omega : 4 * ((i 1).val / 512) + 3 < 28) N_1.symm
  refine ⟨⟨4 * ((i 1).val / 512) + 3, hN⟩, (flush1_5 _).mpr (by dsimp only; omega), ?_⟩
  rw [mem_blk1_5]
  obtain ⟨e0, e1⟩ := idx1_5 ⟨4 * ((i 1).val / 512) + 3, hN⟩
  (try dsimp only at e0 e1)
  intro a
  match a with
  | ⟨0, _⟩ => show win1_5.index _ (0 : Fin 2) * 1792 ≤ (i 0).val ∧ (i 0).val < win1_5.index _ (0 : Fin 2) * 1792 + 1792; rw [e0]; omega
  | ⟨1, _⟩ => show win1_5.index _ (1 : Fin 2) * 512 ≤ (i 1).val ∧ (i 1).val < win1_5.index _ (1 : Fin 2) * 512 + 512; rw [e1]; omega
/-- Output window 5's array after the kernel. -/
theorem final1_5 (c : Dev nD) : (dat1 V c).arrAt 5 cfg1.N = dxArr V c := by
  refine (dat1 V c).arrAt_eq_of_cover 5 _ (fun t hf => ?_) (fun i => cover1_5 i)
  show (cfg1.win 5).cut (grid1.coords t) ((dat1 V c).after 5 t) = _
  rw [after1_5]
  obtain ⟨e0, e1⟩ := idx1_5 t
  funext y
  have hy0 : (y 0).val < 1792 := (y 0).isLt
  have hy1 : (y 1).val < 512 := (y 1).isLt
  have ht : t.val < 28 := lt_of_lt_of_eq t.isLt N_1
  obtain ⟨a0, h0⟩ : ∃ a0 : Fin 1792, a0.val = (y 0).val := ⟨⟨(y 0).val, hy0⟩, rfl⟩
  obtain ⟨a1, h1⟩ : ∃ a1 : Fin 512, a1.val = (y 1).val := ⟨⟨(y 1).val, hy1⟩, rfl⟩
  have hl : (cfg1.win 5).xinj (grid1.coords t) y = ix2 a0 a1 := by
    funext a; apply Fin.ext
    match a with
    | ⟨0, _⟩ => exact h0.symm
    | ⟨1, _⟩ => exact h1.symm
  obtain ⟨q0, g0⟩ : ∃ q0 : Fin 1792, q0.val = 1792 * (0) + a0.val := ⟨⟨1792 * (0) + a0.val, by omega⟩, rfl⟩
  obtain ⟨q1, g1⟩ : ∃ q1 : Fin 3584, q1.val = 512 * (t.val / 4) + a1.val := ⟨⟨512 * (t.val / 4) + a1.val, by omega⟩, rfl⟩
  have he : ((cfg1.win 5).blk t).view.emb y = ix2 q0 q1 := by
    funext a; apply Fin.ext
    match a with
    | ⟨0, _⟩ => show win1_5.index t (0 : Fin 2) * 1792 + 1 * (y 0).val = q0.val; rw [e0]; omega
    | ⟨1, _⟩ => show win1_5.index t (1 : Fin 2) * 512 + 1 * (y 1).val = q1.val; rw [e1]; omega
  show k1_pay4 (iblk1 V c 3 t) (iblk1 V c 4 t) (acc1 V c t.val t.isLt) (iblk1 V c 2 t) ((cfg1.win 5).xinj (grid1.coords t) y) = dxArr V c (((cfg1.win 5).blk t).view.emb y)
  have h3 : t.val % 4 = 3 := (flush1_5 t).mp hf
  rw [hl, he, kpay4_apply, acc1_apply V c a0 a1 t.val t.isLt q1 g1, h3]
  show _ = (∑ o : Fin 18944, (r_main_v4_0 V c q0 o * r_main_arg4 V c q1 o : EReal)) * r_main_v5 V c (0 : Fin 1) q1
    + ∑ r : Fin 48, (r_main_v4_2 V c q0 r * r_main_arg6 V c q1 r : EReal)
  rw [show q0 = a0 from Fin.ext (by omega), sum_blocks 4736 4 18944 (by norm_num), in1_2 V c t (0 : Fin 1) a1 q1 g1]
  have hs : ∑ r : Fin 48, @HMul.hMul EReal EReal EReal _ (iblk1 V c 3 t (ix2 a0 r)) (iblk1 V c 4 t (ix2 a1 r))
      = ∑ r : Fin 48, r_main_v4_2 V c a0 r * r_main_arg6 V c q1 r :=
    Finset.sum_congr rfl fun r _ => by rw [in1_3 V c t a0 r, in1_4 V c t a1 r q1 g1]
  exact congrArg (fun z : EReal => (∑ o : Fin 18944, r_main_v4_0 V c a0 o * r_main_arg4 V c q1 o) * r_main_v5 V c (0 : Fin 1) q1 + z) hs

end Cert.KernelIdeal.Hand
end
-- ==== Proof.KernelIdeal.Result.lean ====
module

public import proofs.«01_k».proof.Proof.KernelIdeal.Run
public import proofs.«01_k».proof.Proof.KernelIdeal.Vals0
public import proofs.«01_k».proof.Proof.KernelIdeal.Vals1
public import proofs.«01_k».proof.Proof.Math
public import Idealize.ShloMosaic.Lib.StableHlo.Run

@[expose] public section

/-! # The kernel program's results, over the extended reals

The host reshapes read at an index, and the last boundary's contents at the three result buffers as the formulas of
`Cert.Math` of the arguments. -/

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem Idealize.ShloMosaic.StableHlo
open scoped BigOperators

theorem after0_main_v0 (W : Valuation τ sig (Elt Ideal)) :
    StableHlo.after (hostOps0 (F := Ideal)) W (Proc.devRef .tc main_v0) = shapeCast _ (W (Proc.devRef .tc main_arg0)) shapeCasts_S2x896x18944_S1792x18944 := by
  simp only [hostOps0]
  after_results <;> rfl
theorem after0_main_v1 (W : Valuation τ sig (Elt Ideal)) :
    StableHlo.after (hostOps0 (F := Ideal)) W (Proc.devRef .tc main_v1) = shapeCast _ (W (Proc.devRef .tc main_arg1)) shapeCasts_S2x896x148_S1792x148 := by
  simp only [hostOps0]
  after_results <;> rfl
theorem after0_main_v2 (W : Valuation τ sig (Elt Ideal)) :
    StableHlo.after (hostOps0 (F := Ideal)) W (Proc.devRef .tc main_v2) = shapeCast _ (W (Proc.devRef .tc main_arg2)) shapeCasts_S2x896x48_S1792x48 := by
  simp only [hostOps0]
  after_results <;> rfl
theorem after0_main_v3 (W : Valuation τ sig (Elt Ideal)) :
    StableHlo.after (hostOps0 (F := Ideal)) W (Proc.devRef .tc main_v3) = shapeCast _ (W (Proc.devRef .tc main_arg3)) shapeCasts_S2x896_S1792x1 := by
  simp only [hostOps0]
  after_results <;> rfl
theorem after1_main_v5 (W : Valuation τ sig (Elt Ideal)) :
    StableHlo.after (hostOps1 (F := Ideal)) W (Proc.devRef .tc main_v5) = shapeCast _ (W (Proc.devRef .tc main_arg5)) shapeCasts_S3584_S1x3584 := by
  simp only [hostOps1]
  after_results <;> rfl
theorem after2_main_v7 (W : Valuation τ sig (Elt Ideal)) :
    StableHlo.after (hostOps2 (F := Ideal)) W (Proc.devRef .tc main_v7) = shapeCast _ (W (Proc.devRef .tc main_v6)) shapeCasts_S1792x3584_S2x896x3584 := by
  simp only [hostOps2]
  after_results <;> rfl
theorem after2_main_v8 (W : Valuation τ sig (Elt Ideal)) :
    StableHlo.after (hostOps2 (F := Ideal)) W (Proc.devRef .tc main_v8) = shapeCast _ (W (Proc.devRef .tc main_v4_2)) shapeCasts_S1792x48_S2x896x48 := by
  simp only [hostOps2]
  after_results <;> rfl

variable (m : (ℓ : Loc nD τ sig) → Buf (Elt Ideal) ℓ) (ρ : Dev nD → PrngReg)

/-- The arguments as functions of their coordinates. -/
abbrev a0 (c : Dev nD) : Fin 2 → Fin 896 → Fin 18944 → EReal := fun b s o => m ((c.tc : Thread nD τ).loc main_arg0) (ix3 b s o)
abbrev a1 (c : Dev nD) : Fin 2 → Fin 896 → Fin 148 → EReal := fun b s k => m ((c.tc : Thread nD τ).loc main_arg1) (ix3 b s k)
abbrev a2 (c : Dev nD) : Fin 2 → Fin 896 → Fin 48 → EReal := fun b s r => m ((c.tc : Thread nD τ).loc main_arg2) (ix3 b s r)
abbrev a3 (c : Dev nD) : Fin 2 → Fin 896 → EReal := fun b s => m ((c.tc : Thread nD τ).loc main_arg3) (ix2 b s)
abbrev a4 (c : Dev nD) : Fin 3584 → Fin 18944 → EReal := fun h o => m ((c.tc : Thread nD τ).loc main_arg4) (ix2 h o)
abbrev a5 (c : Dev nD) : Fin 3584 → EReal := fun h => m ((c.tc : Thread nD τ).loc main_arg5) (ix1 h)
abbrev a6 (c : Dev nD) : Fin 3584 → Fin 48 → EReal := fun h r => m ((c.tc : Thread nD τ).loc main_arg6) (ix2 h r)
abbrev a7 (c : Dev nD) : Fin 48 → Fin 18944 → EReal := fun r o => m ((c.tc : Thread nD τ).loc main_arg7) (ix2 r o)

/-- The first kernel's input `main_v0` at a flattened row. -/
theorem rd_v0 (c : Dev nD) (b : Fin 2) (s : Fin 896) (k : Fin 18944) : r_main_v0 (V1 m ρ) c (Math.row b s) k = a0 m c b s k := by
  show W1 m ρ c (Proc.devRef .tc main_v0) (ix2 (Math.row b s) k) = _
  refine (congrFun (after0_main_v0 (W0 m ρ c)) _).trans ?_
  exact shapeCast_apply _ _ _ (ix3 b s k) (by
    rw [Shape.rowMajor_val_three, Shape.rowMajor_val_two]
    show (b.val * 896 + s.val) * 18944 + k.val = (896 * b.val + s.val) * 18944 + k.val
    rw [Nat.mul_comm b.val 896])
/-- The first kernel's input `main_v1` at a flattened row. -/
theorem rd_v1 (c : Dev nD) (b : Fin 2) (s : Fin 896) (k : Fin 148) : r_main_v1 (V1 m ρ) c (Math.row b s) k = a1 m c b s k := by
  show W1 m ρ c (Proc.devRef .tc main_v1) (ix2 (Math.row b s) k) = _
  refine (congrFun (after0_main_v1 (W0 m ρ c)) _).trans ?_
  exact shapeCast_apply _ _ _ (ix3 b s k) (by
    rw [Shape.rowMajor_val_three, Shape.rowMajor_val_two]
    show (b.val * 896 + s.val) * 148 + k.val = (896 * b.val + s.val) * 148 + k.val
    rw [Nat.mul_comm b.val 896])
/-- The first kernel's input `main_v2` at a flattened row. -/
theorem rd_v2 (c : Dev nD) (b : Fin 2) (s : Fin 896) (k : Fin 48) : r_main_v2 (V1 m ρ) c (Math.row b s) k = a2 m c b s k := by
  show W1 m ρ c (Proc.devRef .tc main_v2) (ix2 (Math.row b s) k) = _
  refine (congrFun (after0_main_v2 (W0 m ρ c)) _).trans ?_
  exact shapeCast_apply _ _ _ (ix3 b s k) (by
    rw [Shape.rowMajor_val_three, Shape.rowMajor_val_two]
    show (b.val * 896 + s.val) * 48 + k.val = (896 * b.val + s.val) * 48 + k.val
    rw [Nat.mul_comm b.val 896])
/-- The first kernel's input `main_v3` at a flattened row. -/
theorem rd_v3 (c : Dev nD) (b : Fin 2) (s : Fin 896) : r_main_v3 (V1 m ρ) c (Math.row b s) (0 : Fin 1) = a3 m c b s := by
  show W1 m ρ c (Proc.devRef .tc main_v3) (ix2 (Math.row b s) (0 : Fin 1)) = _
  refine (congrFun (after0_main_v3 (W0 m ρ c)) _).trans ?_
  exact shapeCast_apply _ _ _ (ix2 b s) (by
    rw [Shape.rowMajor_val_two, Shape.rowMajor_val_two]
    show b.val * 896 + s.val = (896 * b.val + s.val) * 1 + 0
    omega)
/-- The first kernel's input `main_arg7`. -/
theorem rd_arg7 (c : Dev nD) (r : Fin 48) (o : Fin 18944) : r_main_arg7 (V1 m ρ) c r o = a7 m c r o :=
  congrFun (W1_args m ρ c main_arg7 (by decide)) (ix2 r o)

/-- The dequantised output gradient of the first kernel. -/
theorem dy_eq (c : Dev nD) (b : Fin 2) (s : Fin 896) (o : Fin 18944) :
    dy (V1 m ρ) c (Math.row b s) o = Math.dyb (a0 m c) (a1 m c) b s o := by
  unfold dy Math.dyb
  rw [rd_v0, rd_v1]
/-- The first kernel's second array. -/
theorem db_eq (c : Dev nD) (i : S48x18944.Idx) :
    dbArr (V1 m ρ) c i = Math.db (a0 m c) (a1 m c) (a2 m c) (a3 m c) (i 0) (i 1) := by
  show Math.two * ∑ k : Fin 1792, (r_main_v2 (V1 m ρ) c k (i 0) * r_main_v3 (V1 m ρ) c k (0 : Fin 1)) * dy (V1 m ρ) c k (i 1) = _
  unfold Math.db
  rw [Math.sum_rows]
  refine congrArg (Math.two * ·) (Finset.sum_congr rfl fun b _ => Finset.sum_congr rfl fun s _ => ?_)
  exact congrArg₂ (fun u v : EReal => u * v) (congrArg₂ (fun u v : EReal => u * v) (rd_v2 m ρ c b s (i 0)) (rd_v3 m ρ c b s)) (dy_eq m ρ c b s (i 1))
/-- The first kernel's third array at a flattened row. -/
theorem dh_eq (c : Dev nD) (b : Fin 2) (s : Fin 896) (r : Fin 48) :
    @Eq EReal (dhArr (V1 m ρ) c (ix2 (Math.row b s) r)) (Math.dh (a0 m c) (a1 m c) (a7 m c) b s r) := by
  show Math.two * ∑ o : Fin 18944, dy (V1 m ρ) c (Math.row b s) o * r_main_arg7 (V1 m ρ) c r o = _
  unfold Math.dh
  refine congrArg (Math.two * ·) (Finset.sum_congr rfl fun o _ => ?_)
  rw [dy_eq, rd_arg7]

theorem W2_v4_0 (c : Dev nD) : W2 m ρ c (Proc.devRef .tc main_v4_0) = dyArr (V1 m ρ) c := (W2_arr m ρ c 5).trans (final0_5 _ c)
theorem W2_v4_1 (c : Dev nD) : W2 m ρ c (Proc.devRef .tc main_v4_1) = dbArr (V1 m ρ) c := (W2_arr m ρ c 6).trans (final0_6 _ c)
theorem W2_v4_2 (c : Dev nD) : W2 m ρ c (Proc.devRef .tc main_v4_2) = dhArr (V1 m ρ) c := (W2_arr m ρ c 7).trans (final0_7 _ c)
theorem W3_v4_0 (c : Dev nD) : W3 m ρ c (Proc.devRef .tc main_v4_0) = dyArr (V1 m ρ) c := (W3_of m ρ c main_v4_0 (by decide)).trans (W2_v4_0 m ρ c)
theorem W3_v4_1 (c : Dev nD) : W3 m ρ c (Proc.devRef .tc main_v4_1) = dbArr (V1 m ρ) c := (W3_of m ρ c main_v4_1 (by decide)).trans (W2_v4_1 m ρ c)
theorem W3_v4_2 (c : Dev nD) : W3 m ρ c (Proc.devRef .tc main_v4_2) = dhArr (V1 m ρ) c := (W3_of m ρ c main_v4_2 (by decide)).trans (W2_v4_2 m ρ c)
theorem W4_v4_1 (c : Dev nD) : W4 m ρ c (Proc.devRef .tc main_v4_1) = dbArr (V1 m ρ) c := (W4_of m ρ c main_v4_1 (by decide)).trans (W3_v4_1 m ρ c)
theorem W4_v4_2 (c : Dev nD) : W4 m ρ c (Proc.devRef .tc main_v4_2) = dhArr (V1 m ρ) c := (W4_of m ρ c main_v4_2 (by decide)).trans (W3_v4_2 m ρ c)
theorem W4_v6 (c : Dev nD) : W4 m ρ c (Proc.devRef .tc main_v6) = dxArr (V3 m ρ) c := (W4_arr m ρ c 5).trans (final1_5 _ c)

/-- The second kernel's input `main_v4_0` at a flattened row. -/
theorem rd_v4_0 (c : Dev nD) (b : Fin 2) (s : Fin 896) (o : Fin 18944) :
    r_main_v4_0 (V3 m ρ) c (Math.row b s) o = Math.dyb (a0 m c) (a1 m c) b s o :=
  (show @Eq EReal (r_main_v4_0 (V3 m ρ) c (Math.row b s) o) (dyArr (V1 m ρ) c (ix2 (Math.row b s) o)) from congrFun (W3_v4_0 m ρ c) (ix2 (Math.row b s) o)).trans (dy_eq m ρ c b s o)
/-- The second kernel's input `main_v4_2` at a flattened row. -/
theorem rd_v4_2 (c : Dev nD) (b : Fin 2) (s : Fin 896) (r : Fin 48) :
    r_main_v4_2 (V3 m ρ) c (Math.row b s) r = Math.dh (a0 m c) (a1 m c) (a7 m c) b s r :=
  (show @Eq EReal (r_main_v4_2 (V3 m ρ) c (Math.row b s) r) (dhArr (V1 m ρ) c (ix2 (Math.row b s) r)) from congrFun (W3_v4_2 m ρ c) (ix2 (Math.row b s) r)).trans (dh_eq m ρ c b s r)
/-- The second kernel's input `main_arg4`. -/
theorem rd_arg4 (c : Dev nD) (h : Fin 3584) (o : Fin 18944) : r_main_arg4 (V3 m ρ) c h o = a4 m c h o :=
  congrFun (W3_args m ρ c main_arg4 (by decide)) (ix2 h o)
/-- The second kernel's input `main_arg6`. -/
theorem rd_arg6 (c : Dev nD) (h : Fin 3584) (r : Fin 48) : r_main_arg6 (V3 m ρ) c h r = a6 m c h r :=
  congrFun (W3_args m ρ c main_arg6 (by decide)) (ix2 h r)
/-- The second kernel's input `main_v5`. -/
theorem rd_v5 (c : Dev nD) (h : Fin 3584) : r_main_v5 (V3 m ρ) c (0 : Fin 1) h = a5 m c h := by
  show W3 m ρ c (Proc.devRef .tc main_v5) (ix2 (0 : Fin 1) h) = _
  refine (congrFun (after1_main_v5 (W2 m ρ c)) _).trans ?_
  refine (shapeCast_apply _ _ _ (ix1 h) ?_).trans (congrFun (W2_args m ρ c main_arg5 (by decide)) (ix1 h))
  · (
    rw [Shape.rowMajor_val_one, Shape.rowMajor_val_two]
    show h.val = 0 * 3584 + h.val
    omega)
/-- The second kernel's array at a flattened row. -/
theorem dx_eq (c : Dev nD) (b : Fin 2) (s : Fin 896) (h : Fin 3584) :
    @Eq EReal (dxArr (V3 m ρ) c (ix2 (Math.row b s) h)) (Math.dx (a0 m c) (a1 m c) (a4 m c) (a5 m c) (a6 m c) (a7 m c) b s h) := by
  show (∑ o : Fin 18944, (r_main_v4_0 (V3 m ρ) c (Math.row b s) o * r_main_arg4 (V3 m ρ) c h o)) * r_main_v5 (V3 m ρ) c (0 : Fin 1) h
    + ∑ r : Fin 48, (r_main_v4_2 (V3 m ρ) c (Math.row b s) r * r_main_arg6 (V3 m ρ) c h r) = _
  unfold Math.dx
  rw [rd_v5]
  refine congrArg₂ (fun u v : EReal => u * a5 m c h + v) (Finset.sum_congr rfl fun o _ => ?_) (Finset.sum_congr rfl fun r _ => ?_)
  · rw [rd_v4_0, rd_arg4]
  · rw [rd_v4_2, rd_arg6]

/-- Result 1, the gradient of the input. -/
theorem res_v7 (c : Dev nD) (i : S2x896x3584.Idx) :
    @Eq EReal (W5 m ρ c (Proc.devRef .tc main_v7) i) (Math.dx (a0 m c) (a1 m c) (a4 m c) (a5 m c) (a6 m c) (a7 m c) (i 0) (i 1) (i 2)) := by
  refine (congrFun (after2_main_v7 (W4 m ρ c)) i).trans ?_
  rw [W4_v6]
  refine (shapeCast_apply _ _ i (ix2 (Math.row (i 0) (i 1)) (i 2)) ?_).trans (dx_eq m ρ c (i 0) (i 1) (i 2))
  rw [Shape.rowMajor_val_three, Shape.rowMajor_val_two]
  show (896 * (i 0).val + (i 1).val) * 3584 + (i 2).val = ((i 0).val * 896 + (i 1).val) * 3584 + (i 2).val
  rw [Nat.mul_comm 896]
/-- Result 2, the gradient of the up factor. -/
theorem res_v4_1 (c : Dev nD) (i : S48x18944.Idx) :
    @Eq EReal (W5 m ρ c (Proc.devRef .tc main_v4_1) i) (Math.db (a0 m c) (a1 m c) (a2 m c) (a3 m c) (i 0) (i 1)) := by
  rw [W5_of m ρ c main_v4_1 (by decide), W4_v4_1]
  exact db_eq m ρ c i
/-- Result 3, the gradient of the hidden projection. -/
theorem res_v8 (c : Dev nD) (i : S2x896x48.Idx) :
    @Eq EReal (W5 m ρ c (Proc.devRef .tc main_v8) i) (Math.dh (a0 m c) (a1 m c) (a7 m c) (i 0) (i 1) (i 2)) := by
  refine (congrFun (after2_main_v8 (W4 m ρ c)) i).trans ?_
  rw [W4_v4_2]
  refine (shapeCast_apply _ _ i (ix2 (Math.row (i 0) (i 1)) (i 2)) ?_).trans (dh_eq m ρ c (i 0) (i 1) (i 2))
  rw [Shape.rowMajor_val_three, Shape.rowMajor_val_two]
  show (896 * (i 0).val + (i 1).val) * 48 + (i 2).val = ((i 0).val * 896 + (i 1).val) * 48 + (i 2).val
  rw [Nat.mul_comm 896]

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.ReferenceIdeal.Result
public import proofs.«01_k».proof.Proof.Kernel.Run
public import proofs.«01_k».proof.Proof.KernelIdeal.Result
public import Idealize.ShloMosaic.Adequacy
public import Idealize.ShloMosaic.Init

@[expose] public section

noncomputable section

namespace Cert.Proof

open Idealize.ShloMosaic Idealize.SL.Sem Cert.Kernel

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
/-! Equal argument arrays are equal as functions of their coordinates. -/
theorem arg0_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.a0 m' c = Cert.KernelIdeal.Hand.a0 m c := by unfold Cert.ReferenceIdeal.Hand.a0; rw [h]
theorem arg1_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.a1 m' c = Cert.KernelIdeal.Hand.a1 m c := by unfold Cert.ReferenceIdeal.Hand.a1; rw [h]
theorem arg2_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Hand.a2 m' c = Cert.KernelIdeal.Hand.a2 m c := by unfold Cert.ReferenceIdeal.Hand.a2; rw [h]
theorem arg3_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.a3 m' c = Cert.KernelIdeal.Hand.a3 m c := by unfold Cert.ReferenceIdeal.Hand.a3; rw [h]
theorem arg4_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.a4 m' c = Cert.KernelIdeal.Hand.a4 m c := by unfold Cert.ReferenceIdeal.Hand.a4; rw [h]
theorem arg5_eq (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.a5 m' c = Cert.KernelIdeal.Hand.a5 m c := by unfold Cert.ReferenceIdeal.Hand.a5; rw [h]
theorem arg6_eq (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.a6 m' c = Cert.KernelIdeal.Hand.a6 m c := by unfold Cert.ReferenceIdeal.Hand.a6; rw [h]
theorem arg7_eq (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Hand.a7 m' c = Cert.KernelIdeal.Hand.a7 m c := by unfold Cert.ReferenceIdeal.Hand.a7; rw [h]
end

/-- The two programs' three results are the same three formulas of the same arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.W5 m g c (Proc.devRef .tc Cert.KernelIdeal.main_v7), fun c => Cert.KernelIdeal.Hand.W5 m g c (Proc.devRef .tc Cert.KernelIdeal.main_v4_1),
    fun c => Cert.KernelIdeal.Hand.W5 m g c (Proc.devRef .tc Cert.KernelIdeal.main_v8), ?_, ?_⟩
  · exact (θ_run Cert.KernelIdeal.defs _ _).mono (fun _ h c => ⟨h.1 c _ (Cert.KernelIdeal.Hand.mem_uc Cert.KernelIdeal.main_v7 (by decide)),
      h.1 c _ (Cert.KernelIdeal.Hand.mem_uc Cert.KernelIdeal.main_v4_1 (by decide)),
      h.1 c _ (Cert.KernelIdeal.Hand.mem_uc Cert.KernelIdeal.main_v8 (by decide)),
      (h.1 c _ (Cert.KernelIdeal.Hand.mem_uc Cert.KernelIdeal.main_arg0 (by decide))).trans (Cert.KernelIdeal.Hand.W5_args m g c Cert.KernelIdeal.main_arg0 (by decide)),
      (h.1 c _ (Cert.KernelIdeal.Hand.mem_uc Cert.KernelIdeal.main_arg1 (by decide))).trans (Cert.KernelIdeal.Hand.W5_args m g c Cert.KernelIdeal.main_arg1 (by decide)),
      (h.1 c _ (Cert.KernelIdeal.Hand.mem_uc Cert.KernelIdeal.main_arg2 (by decide))).trans (Cert.KernelIdeal.Hand.W5_args m g c Cert.KernelIdeal.main_arg2 (by decide)),
      (h.1 c _ (Cert.KernelIdeal.Hand.mem_uc Cert.KernelIdeal.main_arg3 (by decide))).trans (Cert.KernelIdeal.Hand.W5_args m g c Cert.KernelIdeal.main_arg3 (by decide)),
      (h.1 c _ (Cert.KernelIdeal.Hand.mem_uc Cert.KernelIdeal.main_arg4 (by decide))).trans (Cert.KernelIdeal.Hand.W5_args m g c Cert.KernelIdeal.main_arg4 (by decide)),
      (h.1 c _ (Cert.KernelIdeal.Hand.mem_uc Cert.KernelIdeal.main_arg5 (by decide))).trans (Cert.KernelIdeal.Hand.W5_args m g c Cert.KernelIdeal.main_arg5 (by decide)),
      (h.1 c _ (Cert.KernelIdeal.Hand.mem_uc Cert.KernelIdeal.main_arg6 (by decide))).trans (Cert.KernelIdeal.Hand.W5_args m g c Cert.KernelIdeal.main_arg6 (by decide)),
      (h.1 c _ (Cert.KernelIdeal.Hand.mem_uc Cert.KernelIdeal.main_arg7 (by decide))).trans (Cert.KernelIdeal.Hand.W5_args m g c Cert.KernelIdeal.main_arg7 (by decide))⟩) (Cert.KernelIdeal.Hand.run m g)
  · refine (θ_run Cert.ReferenceIdeal.defs _ _).mono (fun r h c => ?_) (Cert.ReferenceIdeal.Hand.run m' g')
    obtain ⟨h0, h1, h2, hr⟩ := h c
    obtain ⟨e0, e1, e2, e3, e4, e5, e6, e7⟩ := hargs c
    rw [arg0_eq m m' c e0, arg1_eq m m' c e1, arg4_eq m m' c e4, arg5_eq m m' c e5, arg6_eq m m' c e6, arg7_eq m m' c e7] at h0
    rw [arg0_eq m m' c e0, arg1_eq m m' c e1, arg2_eq m m' c e2, arg3_eq m m' c e3] at h1
    rw [arg0_eq m m' c e0, arg1_eq m m' c e1, arg7_eq m m' c e7] at h2
    exact ⟨h0.trans (funext fun i => (Cert.KernelIdeal.Hand.res_v7 m g c i).symm), h1.trans (funext fun i => (Cert.KernelIdeal.Hand.res_v4_1 m g c i).symm),
      h2.trans (funext fun i => (Cert.KernelIdeal.Hand.res_v8 m g c i).symm), hr⟩

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ => Cert.ReferenceIdeal.Gen.frame m g, trivial, algebraic⟩

end Cert.Proof

end
